-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Importance (m : (ℓ : Loc Cert.Importance.nD Cert.Importance.τ Cert.Importance.sig) → Buf (Elt Bits) ℓ) : Prop :=
  True

def Pre_ImportanceIdeal (m : (ℓ : Loc Cert.ImportanceIdeal.nD Cert.ImportanceIdeal.τ Cert.ImportanceIdeal.sig) → Buf (Elt Ideal) ℓ) : Prop :=
  True

def Pre_ImportanceRefIdeal (m : (ℓ : Loc Cert.ImportanceRefIdeal.nD Cert.ImportanceRefIdeal.τ Cert.ImportanceRefIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FirstRowsIdeal (m : (ℓ : Loc Cert.FirstRowsIdeal.nD Cert.FirstRowsIdeal.τ Cert.FirstRowsIdeal.sig) → Buf (Elt Ideal) ℓ) : Prop :=
  True

def Pre_KernelAt (m : (ℓ : Loc Cert.KernelAt.nD Cert.KernelAt.τ Cert.KernelAt.sig) → Buf (Elt Bits) ℓ) : Prop :=
  True

def Pre_KernelAtIdeal (m : (ℓ : Loc Cert.KernelAtIdeal.nD Cert.KernelAtIdeal.τ Cert.KernelAtIdeal.sig) → Buf (Elt Ideal) ℓ) : Prop :=
  True

def Pre_ReferenceAtIdeal (m : (ℓ : Loc Cert.ReferenceAtIdeal.nD Cert.ReferenceAtIdeal.τ Cert.ReferenceAtIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Importance [hImportance : Cert.Importance.Facts] : Prop :=
  ∀ (m : (ℓ : Loc Cert.Importance.nD Cert.Importance.τ Cert.Importance.sig) → Buf (Elt Bits) ℓ) (g : Dev Cert.Importance.nD → PrngReg), Pre_Importance m →
    θ_run (Cert.Importance.defs (F := Bits)) (onTc (τ := Cert.Importance.τ) (Cert.Importance.main (F := Bits))) ⟨m, fun _ => 0, g⟩ (fun r => (∀ c : Dev Cert.Importance.nD,
      r.2.mem ((c.tc : Thread Cert.Importance.nD Cert.Importance.τ).loc Cert.Importance.main_arg0) = m ((c.tc : Thread Cert.Importance.nD Cert.Importance.τ).loc Cert.Importance.main_arg0)
      ∧ r.2.mem ((c.tc : Thread Cert.Importance.nD Cert.Importance.τ).loc Cert.Importance.main_arg1) = m ((c.tc : Thread Cert.Importance.nD Cert.Importance.τ).loc Cert.Importance.main_arg1))
      ∧ r.2.sem = fun _ => 0)

def quiescent_ImportanceIdeal [hImportanceIdeal : Cert.ImportanceIdeal.Facts] : Prop :=
  ∀ (m : (ℓ : Loc Cert.ImportanceIdeal.nD Cert.ImportanceIdeal.τ Cert.ImportanceIdeal.sig) → Buf (Elt Ideal) ℓ) (g : Dev Cert.ImportanceIdeal.nD → PrngReg), Pre_ImportanceIdeal m →
    θ_run (Cert.ImportanceIdeal.defs (F := Ideal)) (onTc (τ := Cert.ImportanceIdeal.τ) (Cert.ImportanceIdeal.main (F := Ideal))) ⟨m, fun _ => 0, g⟩ (fun r => (∀ c : Dev Cert.ImportanceIdeal.nD,
      r.2.mem ((c.tc : Thread Cert.ImportanceIdeal.nD Cert.ImportanceIdeal.τ).loc Cert.ImportanceIdeal.main_arg0) = m ((c.tc : Thread Cert.ImportanceIdeal.nD Cert.ImportanceIdeal.τ).loc Cert.ImportanceIdeal.main_arg0)
      ∧ r.2.mem ((c.tc : Thread Cert.ImportanceIdeal.nD Cert.ImportanceIdeal.τ).loc Cert.ImportanceIdeal.main_arg1) = m ((c.tc : Thread Cert.ImportanceIdeal.nD Cert.ImportanceIdeal.τ).loc Cert.ImportanceIdeal.main_arg1))
      ∧ r.2.sem = fun _ => 0)

def quiescent_ImportanceRefIdeal [hImportanceRefIdeal : Cert.ImportanceRefIdeal.Facts] : Prop :=
  ∀ (m : (ℓ : Loc Cert.ImportanceRefIdeal.nD Cert.ImportanceRefIdeal.τ Cert.ImportanceRefIdeal.sig) → Buf (Elt Ideal) ℓ) (g : Dev Cert.ImportanceRefIdeal.nD → PrngReg), Pre_ImportanceRefIdeal m →
    θ_run (Cert.ImportanceRefIdeal.defs (F := Ideal)) (onTc (τ := Cert.ImportanceRefIdeal.τ) (Cert.ImportanceRefIdeal.main (F := Ideal))) ⟨m, fun _ => 0, g⟩ (fun r => (∀ c : Dev Cert.ImportanceRefIdeal.nD,
      r.2.mem ((c.tc : Thread Cert.ImportanceRefIdeal.nD Cert.ImportanceRefIdeal.τ).loc Cert.ImportanceRefIdeal.main_arg0) = m ((c.tc : Thread Cert.ImportanceRefIdeal.nD Cert.ImportanceRefIdeal.τ).loc Cert.ImportanceRefIdeal.main_arg0)
      ∧ r.2.mem ((c.tc : Thread Cert.ImportanceRefIdeal.nD Cert.ImportanceRefIdeal.τ).loc Cert.ImportanceRefIdeal.main_arg1) = m ((c.tc : Thread Cert.ImportanceRefIdeal.nD Cert.ImportanceRefIdeal.τ).loc Cert.ImportanceRefIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_FirstRowsIdeal [hFirstRowsIdeal : Cert.FirstRowsIdeal.Facts] : Prop :=
  ∀ (m : (ℓ : Loc Cert.FirstRowsIdeal.nD Cert.FirstRowsIdeal.τ Cert.FirstRowsIdeal.sig) → Buf (Elt Ideal) ℓ) (g : Dev Cert.FirstRowsIdeal.nD → PrngReg), Pre_FirstRowsIdeal m →
    θ_run (Cert.FirstRowsIdeal.defs (F := Ideal)) (onTc (τ := Cert.FirstRowsIdeal.τ) (Cert.FirstRowsIdeal.main (F := Ideal))) ⟨m, fun _ => 0, g⟩ (fun r => (∀ c : Dev Cert.FirstRowsIdeal.nD,
      r.2.mem ((c.tc : Thread Cert.FirstRowsIdeal.nD Cert.FirstRowsIdeal.τ).loc Cert.FirstRowsIdeal.main_arg0) = m ((c.tc : Thread Cert.FirstRowsIdeal.nD Cert.FirstRowsIdeal.τ).loc Cert.FirstRowsIdeal.main_arg0)
      ∧ r.2.mem ((c.tc : Thread Cert.FirstRowsIdeal.nD Cert.FirstRowsIdeal.τ).loc Cert.FirstRowsIdeal.main_arg1) = m ((c.tc : Thread Cert.FirstRowsIdeal.nD Cert.FirstRowsIdeal.τ).loc Cert.FirstRowsIdeal.main_arg1))
      ∧ r.2.sem = fun _ => 0)

def quiescent_KernelAt [hKernelAt : Cert.KernelAt.Facts] : Prop :=
  ∀ (m : (ℓ : Loc Cert.KernelAt.nD Cert.KernelAt.τ Cert.KernelAt.sig) → Buf (Elt Bits) ℓ) (g : Dev Cert.KernelAt.nD → PrngReg), Pre_KernelAt m →
    θ_run (Cert.KernelAt.defs (F := Bits)) (onTc (τ := Cert.KernelAt.τ) (Cert.KernelAt.main (F := Bits))) ⟨m, fun _ => 0, g⟩ (fun r => (∀ c : Dev Cert.KernelAt.nD,
      r.2.mem ((c.tc : Thread Cert.KernelAt.nD Cert.KernelAt.τ).loc Cert.KernelAt.main_arg0) = m ((c.tc : Thread Cert.KernelAt.nD Cert.KernelAt.τ).loc Cert.KernelAt.main_arg0))
      ∧ r.2.sem = fun _ => 0)

def quiescent_KernelAtIdeal [hKernelAtIdeal : Cert.KernelAtIdeal.Facts] : Prop :=
  ∀ (m : (ℓ : Loc Cert.KernelAtIdeal.nD Cert.KernelAtIdeal.τ Cert.KernelAtIdeal.sig) → Buf (Elt Ideal) ℓ) (g : Dev Cert.KernelAtIdeal.nD → PrngReg), Pre_KernelAtIdeal m →
    θ_run (Cert.KernelAtIdeal.defs (F := Ideal)) (onTc (τ := Cert.KernelAtIdeal.τ) (Cert.KernelAtIdeal.main (F := Ideal))) ⟨m, fun _ => 0, g⟩ (fun r => (∀ c : Dev Cert.KernelAtIdeal.nD,
      r.2.mem ((c.tc : Thread Cert.KernelAtIdeal.nD Cert.KernelAtIdeal.τ).loc Cert.KernelAtIdeal.main_arg0) = m ((c.tc : Thread Cert.KernelAtIdeal.nD Cert.KernelAtIdeal.τ).loc Cert.KernelAtIdeal.main_arg0))
      ∧ r.2.sem = fun _ => 0)

def quiescent_ReferenceAtIdeal [hReferenceAtIdeal : Cert.ReferenceAtIdeal.Facts] : Prop :=
  ∀ (m : (ℓ : Loc Cert.ReferenceAtIdeal.nD Cert.ReferenceAtIdeal.τ Cert.ReferenceAtIdeal.sig) → Buf (Elt Ideal) ℓ) (g : Dev Cert.ReferenceAtIdeal.nD → PrngReg), Pre_ReferenceAtIdeal m →
    θ_run (Cert.ReferenceAtIdeal.defs (F := Ideal)) (onTc (τ := Cert.ReferenceAtIdeal.τ) (Cert.ReferenceAtIdeal.main (F := Ideal))) ⟨m, fun _ => 0, g⟩ (fun r => (∀ c : Dev Cert.ReferenceAtIdeal.nD,
      r.2.mem ((c.tc : Thread Cert.ReferenceAtIdeal.nD Cert.ReferenceAtIdeal.τ).loc Cert.ReferenceAtIdeal.main_arg0) = m ((c.tc : Thread Cert.ReferenceAtIdeal.nD Cert.ReferenceAtIdeal.τ).loc Cert.ReferenceAtIdeal.main_arg0))
      ∧ r.2.sem = fun _ => 0)

def preserves_Kernel_KernelIdeal : Prop :=
  True

def preserves_Importance_ImportanceIdeal : Prop :=
  True

def algebraic_ImportanceIdeal_ImportanceRefIdeal [hImportanceIdeal : Cert.ImportanceIdeal.Facts] [hImportanceRefIdeal : Cert.ImportanceRefIdeal.Facts] : Prop :=
  ∀ (m : (ℓ : Loc Cert.ImportanceIdeal.nD Cert.ImportanceIdeal.τ Cert.ImportanceIdeal.sig) → Buf (Elt Ideal) ℓ) (g : Dev Cert.ImportanceIdeal.nD → PrngReg)
    (m' : (ℓ : Loc Cert.ImportanceRefIdeal.nD Cert.ImportanceRefIdeal.τ Cert.ImportanceRefIdeal.sig) → Buf (Elt Ideal) ℓ) (g' : Dev Cert.ImportanceRefIdeal.nD → PrngReg), Pre_ImportanceIdeal m →
    (∀ c : Dev Cert.ImportanceIdeal.nD,
      m' ((c.tc : Thread Cert.ImportanceRefIdeal.nD Cert.ImportanceRefIdeal.τ).loc Cert.ImportanceRefIdeal.main_arg0) = m ((c.tc : Thread Cert.ImportanceIdeal.nD Cert.ImportanceIdeal.τ).loc Cert.ImportanceIdeal.main_arg0)
      ∧ m' ((c.tc : Thread Cert.ImportanceRefIdeal.nD Cert.ImportanceRefIdeal.τ).loc Cert.ImportanceRefIdeal.main_arg1) = m ((c.tc : Thread Cert.ImportanceIdeal.nD Cert.ImportanceIdeal.τ).loc Cert.ImportanceIdeal.main_arg1)) →
    ∃ (v0 : (c : Dev Cert.ImportanceIdeal.nD) → Buf (Elt Ideal) ((c.tc : Thread Cert.ImportanceIdeal.nD Cert.ImportanceIdeal.τ).loc Cert.ImportanceIdeal.main_v0)),
      θ_run (Cert.ImportanceIdeal.defs (F := Ideal)) (onTc (τ := Cert.ImportanceIdeal.τ) (Cert.ImportanceIdeal.main (F := Ideal))) ⟨m, fun _ => 0, g⟩ (fun r => ∀ c : Dev Cert.ImportanceIdeal.nD,
          r.2.mem ((c.tc : Thread Cert.ImportanceIdeal.nD Cert.ImportanceIdeal.τ).loc Cert.ImportanceIdeal.main_v0) = v0 c
          ∧ r.2.mem ((c.tc : Thread Cert.ImportanceIdeal.nD Cert.ImportanceIdeal.τ).loc Cert.ImportanceIdeal.main_arg0) = m ((c.tc : Thread Cert.ImportanceIdeal.nD Cert.ImportanceIdeal.τ).loc Cert.ImportanceIdeal.main_arg0)
          ∧ r.2.mem ((c.tc : Thread Cert.ImportanceIdeal.nD Cert.ImportanceIdeal.τ).loc Cert.ImportanceIdeal.main_arg1) = m ((c.tc : Thread Cert.ImportanceIdeal.nD Cert.ImportanceIdeal.τ).loc Cert.ImportanceIdeal.main_arg1))
      ∧ θ_run (Cert.ImportanceRefIdeal.defs (F := Ideal)) (onTc (τ := Cert.ImportanceRefIdeal.τ) (Cert.ImportanceRefIdeal.main (F := Ideal))) ⟨m', fun _ => 0, g'⟩ (fun r => ∀ c : Dev Cert.ImportanceRefIdeal.nD,
          r.2.mem ((c.tc : Thread Cert.ImportanceRefIdeal.nD Cert.ImportanceRefIdeal.τ).loc Cert.ImportanceRefIdeal.main_v16) = v0 c
          ∧ r.2.mem ((c.tc : Thread Cert.ImportanceRefIdeal.nD Cert.ImportanceRefIdeal.τ).loc Cert.ImportanceRefIdeal.main_arg0) = m' ((c.tc : Thread Cert.ImportanceRefIdeal.nD Cert.ImportanceRefIdeal.τ).loc Cert.ImportanceRefIdeal.main_arg0)
          ∧ r.2.mem ((c.tc : Thread Cert.ImportanceRefIdeal.nD Cert.ImportanceRefIdeal.τ).loc Cert.ImportanceRefIdeal.main_arg1) = m' ((c.tc : Thread Cert.ImportanceRefIdeal.nD Cert.ImportanceRefIdeal.τ).loc Cert.ImportanceRefIdeal.main_arg1))

def algebraic_KernelIdeal_FirstRowsIdeal [hKernelIdeal : Cert.KernelIdeal.Facts] [hFirstRowsIdeal : Cert.FirstRowsIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.FirstRowsIdeal.nD Cert.FirstRowsIdeal.τ Cert.FirstRowsIdeal.sig) → Buf (Elt Ideal) ℓ) (g' : Dev Cert.FirstRowsIdeal.nD → PrngReg), Pre_KernelIdeal m →
    (∀ c : Dev Cert.KernelIdeal.nD,
      m' ((c.tc : Thread Cert.FirstRowsIdeal.nD Cert.FirstRowsIdeal.τ).loc Cert.FirstRowsIdeal.main_arg0) = m ((c.tc : Thread Cert.KernelIdeal.nD Cert.KernelIdeal.τ).loc Cert.KernelIdeal.main_arg0)
      ∧ m' ((c.tc : Thread Cert.FirstRowsIdeal.nD Cert.FirstRowsIdeal.τ).loc Cert.FirstRowsIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.FirstRowsIdeal.defs (F := Ideal)) (onTc (τ := Cert.FirstRowsIdeal.τ) (Cert.FirstRowsIdeal.main (F := Ideal))) ⟨m', fun _ => 0, g'⟩ (fun r => ∀ c : Dev Cert.FirstRowsIdeal.nD,
          r.2.mem ((c.tc : Thread Cert.FirstRowsIdeal.nD Cert.FirstRowsIdeal.τ).loc Cert.FirstRowsIdeal.main_v0) = v0 c
          ∧ r.2.mem ((c.tc : Thread Cert.FirstRowsIdeal.nD Cert.FirstRowsIdeal.τ).loc Cert.FirstRowsIdeal.main_arg0) = m' ((c.tc : Thread Cert.FirstRowsIdeal.nD Cert.FirstRowsIdeal.τ).loc Cert.FirstRowsIdeal.main_arg0)
          ∧ r.2.mem ((c.tc : Thread Cert.FirstRowsIdeal.nD Cert.FirstRowsIdeal.τ).loc Cert.FirstRowsIdeal.main_arg1) = m' ((c.tc : Thread Cert.FirstRowsIdeal.nD Cert.FirstRowsIdeal.τ).loc Cert.FirstRowsIdeal.main_arg1))

def preserves_KernelAt_KernelAtIdeal : Prop :=
  True

def disproves_algebraic_KernelAtIdeal_ReferenceAtIdeal [hKernelAtIdeal : Cert.KernelAtIdeal.Facts] [hReferenceAtIdeal : Cert.ReferenceAtIdeal.Facts] : Prop :=
  ∀ (m : (ℓ : Loc Cert.KernelAtIdeal.nD Cert.KernelAtIdeal.τ Cert.KernelAtIdeal.sig) → Buf (Elt Ideal) ℓ) (g : Dev Cert.KernelAtIdeal.nD → PrngReg)
    (m' : (ℓ : Loc Cert.ReferenceAtIdeal.nD Cert.ReferenceAtIdeal.τ Cert.ReferenceAtIdeal.sig) → Buf (Elt Ideal) ℓ) (g' : Dev Cert.ReferenceAtIdeal.nD → PrngReg),
    (∀ c : Dev Cert.KernelAtIdeal.nD,
      m ((c.tc : Thread Cert.KernelAtIdeal.nD Cert.KernelAtIdeal.τ).loc Cert.KernelAtIdeal.main_arg0) = Cert.Cx_KernelAtIdeal.arg0 (F := Ideal)) →
    (∀ c : Dev Cert.KernelAtIdeal.nD,
      m' ((c.tc : Thread Cert.ReferenceAtIdeal.nD Cert.ReferenceAtIdeal.τ).loc Cert.ReferenceAtIdeal.main_arg0) = m ((c.tc : Thread Cert.KernelAtIdeal.nD Cert.KernelAtIdeal.τ).loc Cert.KernelAtIdeal.main_arg0)) →
    Pre_KernelAtIdeal m
    ∧ ∃ (v0 : (c : Dev Cert.KernelAtIdeal.nD) → Buf (Elt Ideal) ((c.tc : Thread Cert.KernelAtIdeal.nD Cert.KernelAtIdeal.τ).loc Cert.KernelAtIdeal.main_v14)),
      θ_run (Cert.KernelAtIdeal.defs (F := Ideal)) (onTc (τ := Cert.KernelAtIdeal.τ) (Cert.KernelAtIdeal.main (F := Ideal))) ⟨m, fun _ => 0, g⟩ (fun r => ¬ (∀ c : Dev Cert.KernelAtIdeal.nD,
          r.2.mem ((c.tc : Thread Cert.KernelAtIdeal.nD Cert.KernelAtIdeal.τ).loc Cert.KernelAtIdeal.main_v14) = v0 c))
      ∧ θ_run (Cert.ReferenceAtIdeal.defs (F := Ideal)) (onTc (τ := Cert.ReferenceAtIdeal.τ) (Cert.ReferenceAtIdeal.main (F := Ideal))) ⟨m', fun _ => 0, g'⟩ (fun r => ∀ c : Dev Cert.ReferenceAtIdeal.nD,
          r.2.mem ((c.tc : Thread Cert.ReferenceAtIdeal.nD Cert.ReferenceAtIdeal.τ).loc Cert.ReferenceAtIdeal.main_v23) = v0 c)

def Claim : Prop :=
  ∃ (hKernel : Cert.Kernel.Facts) (hKernelIdeal : Cert.KernelIdeal.Facts) (hImportance : Cert.Importance.Facts) (hImportanceIdeal : Cert.ImportanceIdeal.Facts) (hImportanceRefIdeal : Cert.ImportanceRefIdeal.Facts) (hReferenceIdeal : Cert.ReferenceIdeal.Facts) (hFirstRowsIdeal : Cert.FirstRowsIdeal.Facts) (hKernelAt : Cert.KernelAt.Facts) (hKernelAtIdeal : Cert.KernelAtIdeal.Facts) (hReferenceAtIdeal : Cert.ReferenceAtIdeal.Facts),
    quiescent_Kernel (hKernel := hKernel)
    ∧ quiescent_KernelIdeal (hKernelIdeal := hKernelIdeal)
    ∧ quiescent_Importance (hImportance := hImportance)
    ∧ quiescent_ImportanceIdeal (hImportanceIdeal := hImportanceIdeal)
    ∧ quiescent_ImportanceRefIdeal (hImportanceRefIdeal := hImportanceRefIdeal)
    ∧ quiescent_ReferenceIdeal (hReferenceIdeal := hReferenceIdeal)
    ∧ quiescent_FirstRowsIdeal (hFirstRowsIdeal := hFirstRowsIdeal)
    ∧ quiescent_KernelAt (hKernelAt := hKernelAt)
    ∧ quiescent_KernelAtIdeal (hKernelAtIdeal := hKernelAtIdeal)
    ∧ quiescent_ReferenceAtIdeal (hReferenceAtIdeal := hReferenceAtIdeal)
    ∧ preserves_Kernel_KernelIdeal
    ∧ preserves_Importance_ImportanceIdeal
    ∧ algebraic_ImportanceIdeal_ImportanceRefIdeal (hImportanceIdeal := hImportanceIdeal) (hImportanceRefIdeal := hImportanceRefIdeal)
    ∧ algebraic_KernelIdeal_FirstRowsIdeal (hKernelIdeal := hKernelIdeal) (hFirstRowsIdeal := hFirstRowsIdeal)
    ∧ preserves_KernelAt_KernelAtIdeal
    ∧ disproves_algebraic_KernelAtIdeal_ReferenceAtIdeal (hKernelAtIdeal := hKernelAtIdeal) (hReferenceAtIdeal := hReferenceAtIdeal)
-- ==== Cx_KernelAtIdeal.lean ====
noncomputable def arg0_words : Fin 1 → Fin 1 → Fin 1 → BitVec 32 :=
  ![
    ![
      ![0x3F800000#32] ] ]
noncomputable def arg0 {F : FTy → Type} [FloatOps F] : FVec F (⟨3, ![1, 1, 1]⟩ : Shape) .f32 := fun i => FloatOps.ofBits .f32 (arg0_words (i 0) (i 1) (i 2))
-- ==== Kernel.lean ====
abbrev S32x16x64 : Shape := ⟨3, ![32, 16, 64]⟩
abbrev S32x8192x64 : Shape := ⟨3, ![32, 8192, 64]⟩
abbrev S32x1x8192 : Shape := ⟨3, ![32, 1, 8192]⟩
abbrev S1x16x64 : Shape := ⟨3, ![1, 16, 64]⟩
abbrev S1x8192x64 : Shape := ⟨3, ![1, 8192, 64]⟩
abbrev S1x1x8192 : Shape := ⟨3, ![1, 1, 8192]⟩
abbrev S16x64 : Shape := ⟨2, ![16, 64]⟩
abbrev S8192x64 : Shape := ⟨2, ![8192, 64]⟩
abbrev S16x8192 : Shape := ⟨2, ![16, 8192]⟩
abbrev S16 : Shape := ⟨1, ![16]⟩
abbrev S16x1 : Shape := ⟨2, ![16, 1]⟩
abbrev S8192 : Shape := ⟨1, ![8192]⟩
abbrev S32x8192 : Shape := ⟨2, ![32, 8192]⟩
abbrev S32x384x64 : Shape := ⟨3, ![32, 384, 64]⟩
abbrev S32x384 : Shape := ⟨2, ![32, 384]⟩
abbrev S32x384x1 : Shape := ⟨3, ![32, 384, 1]⟩
abbrev S_ : Shape := ⟨0, ![]⟩

abbrev nBuf : Space → Nat
  | .hbm => 12
  | .vmem => 6
  | .smem => 0
  | _ => 0

abbrev bufTy : (tb : Table) → Fin (tcTables nBuf tb) → BufTy
  | .hbm, ⟨0, _⟩ => ⟨S32x16x64, .f32⟩
  | .hbm, ⟨1, _⟩ => ⟨S32x8192x64, .f32⟩
  | .hbm, ⟨2, _⟩ => ⟨S32x1x8192, .f32⟩
  | .hbm, ⟨3, _⟩ => ⟨S32x8192, .f32⟩
  | .hbm, ⟨4, _⟩ => ⟨S32x384x64, .f32⟩
  | .hbm, ⟨5, _⟩ => ⟨S32x384, .f32⟩
  | .hbm, ⟨6, _⟩ => ⟨S32x384x1, .f32⟩
  | .hbm, ⟨7, _⟩ => ⟨S_, .f32⟩
  | .hbm, ⟨8, _⟩ => ⟨S32x384x1, .f32⟩
  | .hbm, ⟨9, _⟩ => ⟨S32x384x1, .f32⟩
  | .hbm, ⟨10, _⟩ => ⟨S32x384x64, .f32⟩
  | .hbm, ⟨11, _⟩ => ⟨S32x384x64, .f32⟩
  | .local _ .vmem, ⟨0, _⟩ => ⟨S1x16x64, .f32⟩
  | .local _ .vmem, ⟨1, _⟩ => ⟨S1x16x64, .f32⟩
  | .local _ .vmem, ⟨2, _⟩ => ⟨S1x8192x64, .f32⟩
  | .local _ .vmem, ⟨3, _⟩ => ⟨S1x8192x64, .f32⟩
  | .local _ .vmem, ⟨4, _⟩ => ⟨S1x1x8192, .f32⟩
  | .local _ .vmem, ⟨5, _⟩ => ⟨S1x1x8192, .f32⟩
  | _, _ => ⟨S32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Importance.lean ====
abbrev S32x16x64 : Shape := ⟨3, ![32, 16, 64]⟩
abbrev S32x8192x64 : Shape := ⟨3, ![32, 8192, 64]⟩
abbrev S32x1x8192 : Shape := ⟨3, ![32, 1, 8192]⟩
abbrev S1x16x64 : Shape := ⟨3, ![1, 16, 64]⟩
abbrev S1x8192x64 : Shape := ⟨3, ![1, 8192, 64]⟩
abbrev S1x1x8192 : Shape := ⟨3, ![1, 1, 8192]⟩
abbrev S16x64 : Shape := ⟨2, ![16, 64]⟩
abbrev S8192x64 : Shape := ⟨2, ![8192, 64]⟩
abbrev S16x8192 : Shape := ⟨2, ![16, 8192]⟩
abbrev S16 : Shape := ⟨1, ![16]⟩
abbrev S16x1 : Shape := ⟨2, ![16, 1]⟩
abbrev S8192 : Shape := ⟨1, ![8192]⟩

abbrev nBuf : Space → Nat
  | .hbm => 3
  | .vmem => 6
  | .smem => 0
  | _ => 0

abbrev bufTy : (tb : Table) → Fin (tcTables nBuf tb) → BufTy
  | .hbm, ⟨0, _⟩ => ⟨S32x16x64, .f32⟩
  | .hbm, ⟨1, _⟩ => ⟨S32x8192x64, .f32⟩
  | .hbm, ⟨2, _⟩ => ⟨S32x1x8192, .f32⟩
  | .local _ .vmem, ⟨0, _⟩ => ⟨S1x16x64, .f32⟩
  | .local _ .vmem, ⟨1, _⟩ => ⟨S1x16x64, .f32⟩
  | .local _ .vmem, ⟨2, _⟩ => ⟨S1x8192x64, .f32⟩
  | .local _ .vmem, ⟨3, _⟩ => ⟨S1x8192x64, .f32⟩
  | .local _ .vmem, ⟨4, _⟩ => ⟨S1x1x8192, .f32⟩
  | .local _ .vmem, ⟨5, _⟩ => ⟨S1x1x8192, .f32⟩
  | _, _ => ⟨S32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ImportanceRefIdeal.lean ====
abbrev S32x16x64 : Shape := ⟨3, ![32, 16, 64]⟩
abbrev S32x8192x64 : Shape := ⟨3, ![32, 8192, 64]⟩
abbrev S32x16x8192 : Shape := ⟨3, ![32, 16, 8192]⟩
abbrev S_ : Shape := ⟨0, ![]⟩
abbrev S32x16 : Shape := ⟨2, ![32, 16]⟩
abbrev S32x16x1 : Shape := ⟨3, ![32, 16, 1]⟩
abbrev S32x8192 : Shape := ⟨2, ![32, 8192]⟩
abbrev S32x1x8192 : Shape := ⟨3, ![32, 1, 8192]⟩

abbrev nBuf : Space → Nat
  | .hbm => 24
  | .vmem => 0
  | .smem => 0
  | _ => 0

abbrev bufTy : (tb : Table) → Fin (tcTables nBuf tb) → BufTy
  | .hbm, ⟨0, _⟩ => ⟨S32x16x64, .f32⟩
  | .hbm, ⟨1, _⟩ => ⟨S32x8192x64, .f32⟩
  | .hbm, ⟨2, _⟩ => ⟨S32x16x8192, .f32⟩
  | .hbm, ⟨3, _⟩ => ⟨S_, .f32⟩
  | .hbm, ⟨4, _⟩ => ⟨S_, .f32⟩
  | .hbm, ⟨5, _⟩ => ⟨S32x16x8192, .f32⟩
  | .hbm, ⟨6, _⟩ => ⟨S32x16x8192, .f32⟩
  | .hbm, ⟨7, _⟩ => ⟨S_, .f32⟩
  | .hbm, ⟨8, _⟩ => ⟨S32x16, .f32⟩
  | .hbm, ⟨9, _⟩ => ⟨S_, .f32⟩
  | .hbm, ⟨10, _⟩ => ⟨S32x16, .f32⟩
  | .hbm, ⟨11, _⟩ => ⟨S32x16, .f32⟩
  | .hbm, ⟨12, _⟩ => ⟨S32x16x1, .f32⟩
  | .hbm, ⟨13, _⟩ => ⟨S32x16x8192, .f32⟩
  | .hbm, ⟨14, _⟩ => ⟨S32x16x8192, .f32⟩
  | .hbm, ⟨15, _⟩ => ⟨S32x16x8192, .f32⟩
  | .hbm, ⟨16, _⟩ => ⟨S_, .f32⟩
  | .hbm, ⟨17, _⟩ => ⟨S32x16, .f32⟩
  | .hbm, ⟨18, _⟩ => ⟨S32x16x1, .f32⟩
  | .hbm, ⟨19, _⟩ => ⟨S32x16x8192, .f32⟩
  | .hbm, ⟨20, _⟩ => ⟨S32x16x8192, .f32⟩
  | .hbm, ⟨21, _⟩ => ⟨S_, .f32⟩
  | .hbm, ⟨22, _⟩ => ⟨S32x8192, .f32⟩
  | .hbm, ⟨23, _⟩ => ⟨S32x1x8192, .f32⟩
  | _, _ => ⟨S32x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== ReferenceIdeal.lean ====
abbrev S32x16x64 : Shape := ⟨3, ![32, 16, 64]⟩
abbrev S32x8192x64 : Shape := ⟨3, ![32, 8192, 64]⟩
abbrev S32x16x8192 : Shape := ⟨3, ![32, 16, 8192]⟩
abbrev S_ : Shape := ⟨0, ![]⟩
abbrev S32x16 : Shape := ⟨2, ![32, 16]⟩
abbrev S32x16x1 : Shape := ⟨3, ![32, 16, 1]⟩
abbrev S32x8192 : Shape := ⟨2, ![32, 8192]⟩
abbrev S32x384 : Shape := ⟨2, ![32, 384]⟩
abbrev S32x384x1 : Shape := ⟨3, ![32, 384, 1]⟩
abbrev S1 : Shape := ⟨1, ![1]⟩
abbrev S1x1x1 : Shape := ⟨3, ![1, 1, 1]⟩
abbrev S32x384x64 : Shape := ⟨3, ![32, 384, 64]⟩

abbrev nBuf : Space → Nat
  | .hbm => 48
  | .vmem => 0
  | .smem => 0
  | _ => 0

abbrev bufTy : (tb : Table) → Fin (tcTables nBuf tb) → BufTy
  | .hbm, ⟨0, _⟩ => ⟨S32x16x64, .f32⟩
  | .hbm, ⟨1, _⟩ => ⟨S32x8192x64, .f32⟩
  | .hbm, ⟨2, _⟩ => ⟨S32x16x8192, .f32⟩
  | .hbm, ⟨3, _⟩ => ⟨S_, .f32⟩
  | .hbm, ⟨4, _⟩ => ⟨S_, .f32⟩
  | .hbm, ⟨5, _⟩ => ⟨S32x16x8192, .f32⟩
  | .hbm, ⟨6, _⟩ => ⟨S32x16x8192, .f32⟩
  | .hbm, ⟨7, _⟩ => ⟨S_, .f32⟩
  | .hbm, ⟨8, _⟩ => ⟨S32x16, .f32⟩
  | .hbm, ⟨9, _⟩ => ⟨S_, .f32⟩
  | .hbm, ⟨10, _⟩ => ⟨S32x16, .f32⟩
  | .hbm, ⟨11, _⟩ => ⟨S32x16, .f32⟩
  | .hbm, ⟨12, _⟩ => ⟨S32x16x1, .f32⟩
  | .hbm, ⟨13, _⟩ => ⟨S32x16x8192, .f32⟩
  | .hbm, ⟨14, _⟩ => ⟨S32x16x8192, .f32⟩
  | .hbm, ⟨15, _⟩ => ⟨S32x16x8192, .f32⟩
  | .hbm, ⟨16, _⟩ => ⟨S_, .f32⟩
  | .hbm, ⟨17, _⟩ => ⟨S32x16, .f32⟩
  | .hbm, ⟨18, _⟩ => ⟨S32x16x1, .f32⟩
  | .hbm, ⟨19, _⟩ => ⟨S32x16x8192, .f32⟩
  | .hbm, ⟨20, _⟩ => ⟨S32x16x8192, .f32⟩
  | .hbm, ⟨21, _⟩ => ⟨S_, .f32⟩
  | .hbm, ⟨22, _⟩ => ⟨S32x8192, .f32⟩
  | .hbm, ⟨23, _⟩ => ⟨S32x384, .f32⟩
  | .hbm, ⟨24, _⟩ => ⟨S32x384, .i32⟩
  | .hbm, ⟨25, _⟩ => ⟨S32x384x1, .i32⟩
  | .hbm, ⟨26, _⟩ => ⟨S_, .i32⟩
  | .hbm, ⟨27, _⟩ => ⟨S32x384x1, .i32⟩
  | .hbm, ⟨28, _⟩ => ⟨S32x384x1, .i1⟩
  | .hbm, ⟨29, _⟩ => ⟨S_, .i32⟩
  | .hbm, ⟨30, _⟩ => ⟨S32x384x1, .i32⟩
  | .hbm, ⟨31, _⟩ => ⟨S32x384x1, .i32⟩
  | .hbm, ⟨32, _⟩ => ⟨S32x384x1, .i32⟩
  | .hbm, ⟨33, _⟩ => ⟨S1, .i32⟩
  | .hbm, ⟨34, _⟩ => ⟨S_, .i32⟩
  | .hbm, ⟨35, _⟩ => ⟨S32x384x1, .i32⟩
  | .hbm, ⟨36, _⟩ => ⟨S32x384x1, .i1⟩
  | .hbm, ⟨37, _⟩ => ⟨S1x1x1, .i32⟩
  | .hbm, ⟨38, _⟩ => ⟨S32x384x1, .i32⟩
  | .hbm, ⟨39, _⟩ => ⟨S32x384x1, .i1⟩
  | .hbm, ⟨40, _⟩ => ⟨S32x384x1, .i1⟩
  | .hbm, ⟨41, _⟩ => ⟨S_, .i1⟩
  | .hbm, ⟨42, _⟩ => ⟨S32x384, .i1⟩
  | .hbm, ⟨43, _⟩ => ⟨S32x384x64, .f32⟩
  | .hbm, ⟨44, _⟩ => ⟨S32x384x64, .i1⟩
  | .hbm, ⟨45, _⟩ => ⟨S_, .f32⟩
  | .hbm, ⟨46, _⟩ => ⟨S32x384x64, .f32⟩
  | .hbm, ⟨47, _⟩ => ⟨S32x384x64, .f32⟩
  | _, _ => ⟨S32x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_values : Ref sig .tc := ⟨.hbm, 23, rfl⟩
abbrev main_indices : Ref sig .tc := ⟨.hbm, 24, rfl⟩
abbrev main_v16 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_c_2 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_c_3 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_cst : Ref sig .tc := ⟨.hbm, 45, rfl⟩
abbrev main_call0_v14 : Ref sig .tc := ⟨.hbm, 46, rfl⟩
abbrev main_v17 : Ref sig .tc := ⟨.hbm, 47, rfl⟩

abbrev nD : Nat := 1
abbrev τ : Topo := Topo.v7x

variable {F : FTy → Type} [FloatOps F]
-- ==== FirstRowsIdeal.lean ====
abbrev S32x16x64 : Shape := ⟨3, ![32, 16, 64]⟩
abbrev S32x8192x64 : Shape := ⟨3, ![32, 8192, 64]⟩
abbrev S32x384x64 : Shape := ⟨3, ![32, 384, 64]⟩

abbrev nBuf : Space → Nat
  | .hbm => 3
  | .vmem => 0
  | .smem => 0
  | _ => 0

abbrev bufTy : (tb : Table) → Fin (tcTables nBuf tb) → BufTy
  | .hbm, ⟨0, _⟩ => ⟨S32x16x64, .f32⟩
  | .hbm, ⟨1, _⟩ => ⟨S32x8192x64, .f32⟩
  | .hbm, ⟨2, _⟩ => ⟨S32x384x64, .f32⟩
  | _, _ => ⟨S32x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelAt.lean ====
abbrev S1x1x1 : Shape := ⟨3, ![1, 1, 1]⟩
abbrev S32x16x64 : Shape := ⟨3, ![32, 16, 64]⟩
abbrev S32x8192x64 : Shape := ⟨3, ![32, 8192, 64]⟩
abbrev S_ : Shape := ⟨0, ![]⟩
abbrev S32x1x8192 : Shape := ⟨3, ![32, 1, 8192]⟩
abbrev S1x16x64 : Shape := ⟨3, ![1, 16, 64]⟩
abbrev S1x8192x64 : Shape := ⟨3, ![1, 8192, 64]⟩
abbrev S1x1x8192 : Shape := ⟨3, ![1, 1, 8192]⟩
abbrev S16x64 : Shape := ⟨2, ![16, 64]⟩
abbrev S8192x64 : Shape := ⟨2, ![8192, 64]⟩
abbrev S16x8192 : Shape := ⟨2, ![16, 8192]⟩
abbrev S16 : Shape := ⟨1, ![16]⟩
abbrev S16x1 : Shape := ⟨2, ![16, 1]⟩
abbrev S8192 : Shape := ⟨1, ![8192]⟩
abbrev S32x8192 : Shape := ⟨2, ![32, 8192]⟩
abbrev S32x384x64 : Shape := ⟨3, ![32, 384, 64]⟩
abbrev S32x384 : Shape := ⟨2, ![32, 384]⟩
abbrev S32x384x1 : Shape := ⟨3, ![32, 384, 1]⟩

abbrev nBuf : Space → Nat
  | .hbm => 20
  | .vmem => 6
  | .smem => 0
  | _ => 0

abbrev bufTy : (tb : Table) → Fin (tcTables nBuf tb) → BufTy
  | .hbm, ⟨0, _⟩ => ⟨S1x1x1, .f32⟩
  | .hbm, ⟨1, _⟩ => ⟨S32x16x64, .f32⟩
  | .hbm, ⟨2, _⟩ => ⟨S32x8192x64, .i32⟩
  | .hbm, ⟨3, _⟩ => ⟨S_, .i32⟩
  | .hbm, ⟨4, _⟩ => ⟨S32x8192x64, .i32⟩
  | .hbm, ⟨5, _⟩ => ⟨S32x8192x64, .i1⟩
  | .hbm, ⟨6, _⟩ => ⟨S32x8192x64, .f32⟩
  | .hbm, ⟨7, _⟩ => ⟨S_, .f32⟩
  | .hbm, ⟨8, _⟩ => ⟨S32x8192x64, .f32⟩
  | .hbm, ⟨9, _⟩ => ⟨S32x8192x64, .f32⟩
  | .hbm, ⟨10, _⟩ => ⟨S32x1x8192, .f32⟩
  | .hbm, ⟨11, _⟩ => ⟨S32x8192, .f32⟩
  | .hbm, ⟨12, _⟩ => ⟨S32x384x64, .f32⟩
  | .hbm, ⟨13, _⟩ => ⟨S32x384, .f32⟩
  | .hbm, ⟨14, _⟩ => ⟨S32x384x1, .f32⟩
  | .hbm, ⟨15, _⟩ => ⟨S_, .f32⟩
  | .hbm, ⟨16, _⟩ => ⟨S32x384x1, .f32⟩
  | .hbm, ⟨17, _⟩ => ⟨S32x384x1, .f32⟩
  | .hbm, ⟨18, _⟩ => ⟨S32x384x64, .f32⟩
  | .hbm, ⟨19, _⟩ => ⟨S32x384x64, .f32⟩
  | .local _ .vmem, ⟨0, _⟩ => ⟨S1x16x64, .f32⟩
  | .local _ .vmem, ⟨1, _⟩ => ⟨S1x16x64, .f32⟩
  | .local _ .vmem, ⟨2, _⟩ => ⟨S1x8192x64, .f32⟩
  | .local _ .vmem, ⟨3, _⟩ => ⟨S1x8192x64, .f32⟩
  | .local _ .vmem, ⟨4, _⟩ => ⟨S1x1x8192, .f32⟩
  | .local _ .vmem, ⟨5, _⟩ => ⟨S1x1x8192, .f32⟩
  | _, _ => ⟨S1x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceAtIdeal.lean ====
abbrev S1x1x1 : Shape := ⟨3, ![1, 1, 1]⟩
abbrev S32x16x64 : Shape := ⟨3, ![32, 16, 64]⟩
abbrev S32x8192x64 : Shape := ⟨3, ![32, 8192, 64]⟩
abbrev S_ : Shape := ⟨0, ![]⟩
abbrev S32x16x8192 : Shape := ⟨3, ![32, 16, 8192]⟩
abbrev S32x16 : Shape := ⟨2, ![32, 16]⟩
abbrev S32x16x1 : Shape := ⟨3, ![32, 16, 1]⟩
abbrev S32x8192 : Shape := ⟨2, ![32, 8192]⟩
abbrev S32x384 : Shape := ⟨2, ![32, 384]⟩
abbrev S32x384x1 : Shape := ⟨3, ![32, 384, 1]⟩
abbrev S1 : Shape := ⟨1, ![1]⟩
abbrev S32x384x64 : Shape := ⟨3, ![32, 384, 64]⟩

abbrev nBuf : Space → Nat
  | .hbm => 56
  | .vmem => 0
  | .smem => 0
  | _ => 0

abbrev bufTy : (tb : Table) → Fin (tcTables nBuf tb) → BufTy
  | .hbm, ⟨0, _⟩ => ⟨S1x1x1, .f32⟩
  | .hbm, ⟨1, _⟩ => ⟨S32x16x64, .f32⟩
  | .hbm, ⟨2, _⟩ => ⟨S32x8192x64, .i32⟩
  | .hbm, ⟨3, _⟩ => ⟨S_, .i32⟩
  | .hbm, ⟨4, _⟩ => ⟨S32x8192x64, .i32⟩
  | .hbm, ⟨5, _⟩ => ⟨S32x8192x64, .i1⟩
  | .hbm, ⟨6, _⟩ => ⟨S32x8192x64, .f32⟩
  | .hbm, ⟨7, _⟩ => ⟨S_, .f32⟩
  | .hbm, ⟨8, _⟩ => ⟨S32x8192x64, .f32⟩
  | .hbm, ⟨9, _⟩ => ⟨S32x8192x64, .f32⟩
  | .hbm, ⟨10, _⟩ => ⟨S32x16x8192, .f32⟩
  | .hbm, ⟨11, _⟩ => ⟨S_, .f32⟩
  | .hbm, ⟨12, _⟩ => ⟨S_, .f32⟩
  | .hbm, ⟨13, _⟩ => ⟨S32x16x8192, .f32⟩
  | .hbm, ⟨14, _⟩ => ⟨S32x16x8192, .f32⟩
  | .hbm, ⟨15, _⟩ => ⟨S_, .f32⟩
  | .hbm, ⟨16, _⟩ => ⟨S32x16, .f32⟩
  | .hbm, ⟨17, _⟩ => ⟨S_, .f32⟩
  | .hbm, ⟨18, _⟩ => ⟨S32x16, .f32⟩
  | .hbm, ⟨19, _⟩ => ⟨S32x16, .f32⟩
  | .hbm, ⟨20, _⟩ => ⟨S32x16x1, .f32⟩
  | .hbm, ⟨21, _⟩ => ⟨S32x16x8192, .f32⟩
  | .hbm, ⟨22, _⟩ => ⟨S32x16x8192, .f32⟩
  | .hbm, ⟨23, _⟩ => ⟨S32x16x8192, .f32⟩
  | .hbm, ⟨24, _⟩ => ⟨S_, .f32⟩
  | .hbm, ⟨25, _⟩ => ⟨S32x16, .f32⟩
  | .hbm, ⟨26, _⟩ => ⟨S32x16x1, .f32⟩
  | .hbm, ⟨27, _⟩ => ⟨S32x16x8192, .f32⟩
  | .hbm, ⟨28, _⟩ => ⟨S32x16x8192, .f32⟩
  | .hbm, ⟨29, _⟩ => ⟨S_, .f32⟩
  | .hbm, ⟨30, _⟩ => ⟨S32x8192, .f32⟩
  | .hbm, ⟨31, _⟩ => ⟨S32x384, .f32⟩
  | .hbm, ⟨32, _⟩ => ⟨S32x384, .i32⟩
  | .hbm, ⟨33, _⟩ => ⟨S32x384x1, .i32⟩
  | .hbm, ⟨34, _⟩ => ⟨S_, .i32⟩
  | .hbm, ⟨35, _⟩ => ⟨S32x384x1, .i32⟩
  | .hbm, ⟨36, _⟩ => ⟨S32x384x1, .i1⟩
  | .hbm, ⟨37, _⟩ => ⟨S_, .i32⟩
  | .hbm, ⟨38, _⟩ => ⟨S32x384x1, .i32⟩
  | .hbm, ⟨39, _⟩ => ⟨S32x384x1, .i32⟩
  | .hbm, ⟨40, _⟩ => ⟨S32x384x1, .i32⟩
  | .hbm, ⟨41, _⟩ => ⟨S1, .i32⟩
  | .hbm, ⟨42, _⟩ => ⟨S_, .i32⟩
  | .hbm, ⟨43, _⟩ => ⟨S32x384x1, .i32⟩
  | .hbm, ⟨44, _⟩ => ⟨S32x384x1, .i1⟩
  | .hbm, ⟨45, _⟩ => ⟨S1x1x1, .i32⟩
  | .hbm, ⟨46, _⟩ => ⟨S32x384x1, .i32⟩
  | .hbm, ⟨47, _⟩ => ⟨S32x384x1, .i1⟩
  | .hbm, ⟨48, _⟩ => ⟨S32x384x1, .i1⟩
  | .hbm, ⟨49, _⟩ => ⟨S_, .i1⟩
  | .hbm, ⟨50, _⟩ => ⟨S32x384, .i1⟩
  | .hbm, ⟨51, _⟩ => ⟨S32x384x64, .f32⟩
  | .hbm, ⟨52, _⟩ => ⟨S32x384x64, .i1⟩
  | .hbm, ⟨53, _⟩ => ⟨S_, .f32⟩
  | .hbm, ⟨54, _⟩ => ⟨S32x384x64, .f32⟩
  | .hbm, ⟨55, _⟩ => ⟨S32x384x64, .f32⟩
  | _, _ => ⟨S1x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_values : Ref sig .tc := ⟨.hbm, 31, rfl⟩
abbrev main_indices : Ref sig .tc := ⟨.hbm, 32, rfl⟩
abbrev main_v22 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_c_2 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_c_3 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v23 : Ref sig .tc := ⟨.hbm, 55, rfl⟩

abbrev nD : Nat := 1
abbrev τ : Topo := Topo.v7x

variable {F : FTy → Type} [FloatOps F]
-- ==== Proof.Attention.lean ====
/- The mathematics both programs compute, over the extended reals and with no program in it: the importance of a key is the
   sum, over the queries, of the softmax weight that each query gives it (`importance`). Both ways of scaling a score, by an
   eighth or by the reciprocal of the root of sixty-four, give the same score (`scale_eq`). -/
module

public import Idealize.ShloMosaic.Lib.Pointwise

@[expose] public section

noncomputable section

namespace Cert.Proof.Attention

open Idealize.ShloMosaic Idealize.ShloMosaic.Pointwise

/-- The unscaled score of query `i` and key `j`: their inner product over the 64 features. -/
def dot (q : Fin 16 → Fin 64 → EReal) (k : Fin 8192 → Fin 64 → EReal) (i : Fin 16) (j : Fin 8192) : EReal :=
  ∑ d, q i d * k j d

/-- The largest score of one query. -/
def top (s : Fin 8192 → EReal) : EReal := Finset.univ.sup s

/-- The softmax weight of key `j` under one query's scores. -/
def weight (s : Fin 8192 → EReal) (j : Fin 8192) : EReal :=
  Ideal.div (Ideal.exp (s j - top s)) (∑ l, Ideal.exp (s l - top s))

/-- The importance of key `j`: the sum of its weights over the sixteen queries. -/
def importance (s : Fin 16 → Fin 8192 → EReal) (j : Fin 8192) : EReal := ∑ i, weight (s i) j

/-- The word `0xFF800000` is minus infinity. -/
theorem bits_bot : Ideal.ofBits .f32 0xFF800000#32 = ⊥ := by simp [Ideal.ofBits, Ideal.ieee]

/-- The word `0x3E000000` is one eighth. -/
theorem bits_eighth : Ideal.ofBits .f32 0x3E000000#32 = (((1 : ℝ) / 8 : ℝ) : EReal) := by
  simp [Ideal.ofBits, Ideal.ieee]; rw [← EReal.coe_mul]; norm_num

/-- The word `0x42800000` is sixty-four. -/
theorem bits_64 : Ideal.ofBits .f32 0x42800000#32 = ((64 : ℝ) : EReal) := by
  simp [Ideal.ofBits, Ideal.ieee]; rw [← EReal.coe_mul]; norm_num

/-- The root of sixty-four is eight. -/
theorem root_64 : Ideal.sqrt (Ideal.ofBits .f32 0x42800000#32) = ((8 : ℝ) : EReal) := by
  rw [bits_64, Ideal.sqrt_coe, if_neg (by norm_num), show (64 : ℝ) = 8 ^ 2 by norm_num, Real.sqrt_sq (by norm_num)]

/-- Dividing a score by the root of sixty-four is multiplying it by an eighth, at every extended real. -/
theorem scale_eq (x : EReal) :
    Ideal.div x (Ideal.sqrt (Ideal.ofBits .f32 0x42800000#32)) = x * Ideal.ofBits .f32 0x3E000000#32 := by
  rw [root_64, bits_eighth, Ideal.div_coe (by norm_num)]

/-- A maximum folded from minus infinity over all keys is the largest score. -/
theorem fold_eq_top (s : Fin 8192 → EReal) :
    Finset.fold max (Ideal.ofBits .f32 0xFF800000#32) s Finset.univ = top s := by
  rw [bits_bot]; rfl

/-- and taking its maximum with minus infinity once more changes nothing. -/
theorem max_bits_bot (x : EReal) : max (Ideal.ofBits .f32 0xFF800000#32) x = x := by
  rw [bits_bot]; exact max_eq_right bot_le

/-- The largest entry along the last axis of a rank-3 array, read at the two remaining coordinates. -/
theorem largest_apply {n0 n1 n2 : Nat} {u : Shape} (h : (⟨3, ![n0, n1, n2]⟩ : Shape).ReducesTo [2] ⟨2, ![n0, n1]⟩)
    (hu : 0 < u.numel) (s : FVec Ideal ⟨3, ![n0, n1, n2]⟩ .f32) (b : Fin n0) (i : Fin n1) :
    Host.reduce FloatOps.maximumf s (constant (F := Ideal) u .f32 0xFF800000#32) h hu (ix2 b i)
      = Finset.univ.sup (α := EReal) fun l : Fin n2 => s (ix3 b i l) := by
  rw [Host.reduce_eq_fold, Shape.ReducesTo.fold_fiber_r3_a2,
    show constant (F := Ideal) u .f32 0xFF800000#32 (Shape.Idx.first hu) = (⊥ : EReal) from bits_bot]
  rfl

end Cert.Proof.Attention

end
-- ==== Proof.ImportanceBlock.lean ====
/- What ONE block of the importance kernel computes: from one batch entry's sixteen queries and all its keys, the importance
   of every key, its scores scaled by the constant one eighth. -/
module

public import proofs.«01_k».proof.Proof.Gen.ImportanceIdeal.Skeleton
public import proofs.«01_k».proof.Proof.Attention

@[expose] public section

set_option maxRecDepth 16384

noncomputable section

namespace Cert.Proof.ImportanceBlock

open Cert.ImportanceIdeal Cert.ImportanceIdeal.Gen Cert.Proof.Attention
open Idealize.ShloMosaic Idealize.ShloMosaic.Pointwise

/-- The scaled scores of one block: the inner products times one eighth. -/
def scores (q : Vec Ideal S1x16x64 .f32) (k : Vec Ideal S1x8192x64 .f32) (i : Fin 16) (j : Fin 8192) : EReal :=
  dot (fun i d => q (ix3 0 i d)) (fun j d => k (ix3 0 j d)) i j * Ideal.ofBits .f32 0x3E000000#32

/-- Entry `j` of what the block stores is the importance of key `j` under the block's scaled scores. -/
theorem stored_apply (q : Vec Ideal S1x16x64 .f32) (k : Vec Ideal S1x8192x64 .f32) (j : Fin 8192) :
    k0_pay1 (F := Ideal) q k (ix3 0 0 j) = importance (scores q k) j := by
  pointwise [k0_pay1]
  simp only [fold_eq_top]
  rfl

end Cert.Proof.ImportanceBlock

end
-- ==== Proof.ImportanceArray.lean ====
/- What the importance kernel's ARRAY holds after its run: block `t` of the grid of thirty-two reads batch entry `t` of the
   queries and of the keys and writes batch entry `t` of the result, so entry `(b, 0, j)` is the importance of key `j` of
   batch entry `b`. -/
module

public import proofs.«01_k».proof.Proof.Gen.ImportanceIdeal.Value
public import proofs.«01_k».proof.Proof.ImportanceBlock

@[expose] public section

set_option maxRecDepth 16384

noncomputable section

namespace Cert.Proof.ImportanceArray

open Cert.ImportanceIdeal Cert.ImportanceIdeal.Gen Cert.ImportanceIdeal.Value Cert.Proof.Attention
open Idealize.ShloMosaic Idealize.ShloMosaic.TcCoe Idealize.ShloMosaic.Pointwise Idealize.SL.Sem

/-- The scaled scores of batch entry `b`. -/
def scores (q : Vec Ideal S32x16x64 .f32) (k : Vec Ideal S32x8192x64 .f32) (b : Fin 32) (i : Fin 16) (j : Fin 8192) : EReal :=
  dot (fun i d => q (ix3 b i d)) (fun j d => k (ix3 b j d)) i j * Ideal.ofBits .f32 0x3E000000#32

/-- The whole result as a function of the two argument arrays. -/
def whole (q : Vec Ideal S32x16x64 .f32) (k : Vec Ideal S32x8192x64 .f32) : Vec Ideal S32x1x8192 .f32 :=
  fun y => importance (scores q k (y 0)) (y 2)

/-- Block `t` of the queries starts at batch entry `t`, and at the origin of the other two axes, -/
theorem start_q : ∀ t : Fin cfg0.N, win0_0.index t (0 : Fin 3) = t.val ∧ win0_0.index t (1 : Fin 3) = 0 ∧ win0_0.index t (2 : Fin 3) = 0 :=
  (by decide +kernel : ∀ t : Fin grid0.N, _)
/-- so does block `t` of the keys -/
theorem start_k : ∀ t : Fin cfg0.N, win0_1.index t (0 : Fin 3) = t.val ∧ win0_1.index t (1 : Fin 3) = 0 ∧ win0_1.index t (2 : Fin 3) = 0 :=
  (by decide +kernel : ∀ t : Fin grid0.N, _)
/-- and block `t` of the importance. -/
theorem start_o : ∀ t : Fin cfg0.N, win0_2.index t (0 : Fin 3) = t.val ∧ win0_2.index t (1 : Fin 3) = 0 ∧ win0_2.index t (2 : Fin 3) = 0 :=
  (by decide +kernel : ∀ t : Fin grid0.N, _)

/-- A grid point as a batch entry. -/
def batch (t : Fin cfg0.N) : Fin 32 := ⟨t.val, lt_of_lt_of_eq t.isLt N_0⟩

/-- Where an index of a block of queries lies in the array of queries. -/
theorem at_q (t : Fin cfg0.N) (i : Fin 16) (d : Fin 64) :
    ((cfg0.win 0).blk t).view.emb (ix3 (0 : Fin 1) i d : S1x16x64.Idx) = (ix3 (batch t) i d : S32x16x64.Idx) := by
  obtain ⟨e0, e1, e2⟩ := start_q t
  funext a; apply Fin.ext
  match a with
  | ⟨0, _⟩ => show win0_0.index t (0 : Fin 3) * 1 + 1 * 0 = t.val; omega
  | ⟨1, _⟩ => show win0_0.index t (1 : Fin 3) * 16 + 1 * i.val = i.val; omega
  | ⟨2, _⟩ => show win0_0.index t (2 : Fin 3) * 64 + 1 * d.val = d.val; omega

/-- Where an index of a block of keys lies in the array of keys. -/
theorem at_k (t : Fin cfg0.N) (j : Fin 8192) (d : Fin 64) :
    ((cfg0.win 1).blk t).view.emb (ix3 (0 : Fin 1) j d : S1x8192x64.Idx) = (ix3 (batch t) j d : S32x8192x64.Idx) := by
  obtain ⟨e0, e1, e2⟩ := start_k t
  funext a; apply Fin.ext
  match a with
  | ⟨0, _⟩ => show win0_1.index t (0 : Fin 3) * 1 + 1 * 0 = t.val; omega
  | ⟨1, _⟩ => show win0_1.index t (1 : Fin 3) * 8192 + 1 * j.val = j.val; omega
  | ⟨2, _⟩ => show win0_1.index t (2 : Fin 3) * 64 + 1 * d.val = d.val; omega

/-- Where an index of a result block lies in the result. -/
theorem at_o (t : Fin cfg0.N) (j : Fin 8192) :
    ((cfg0.win 2).blk t).view.emb (ix3 (0 : Fin 1) (0 : Fin 1) j : S1x1x8192.Idx) = (ix3 (batch t) (0 : Fin 1) j : S32x1x8192.Idx) := by
  obtain ⟨e0, e1, e2⟩ := start_o t
  funext a; apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 8192 + 1 * j.val = j.val; omega

/-- Every index of a result block is `(0, 0, j)`. -/
theorem block_idx (y : S1x1x8192.Idx) : ∃ j : Fin 8192, y = ix3 (0 : Fin 1) (0 : Fin 1) j :=
  ⟨y 2, funext fun a => by
    match a with
    | ⟨0, _⟩ => exact Subsingleton.elim (α := Fin 1) _ _
    | ⟨1, _⟩ => exact Subsingleton.elim (α := Fin 1) _ _
    | ⟨2, _⟩ => rfl⟩

/-- An offset of three zeros is the origin. -/
theorem origin : (![0, 0, 0] : Fin 3 → Nat) = fun _ => 0 := funext fun a => by fin_cases a <;> rfl

variable (m : (ℓ : Loc nD τ sig) → Buf (Elt Ideal) ℓ) (ρ : Dev nD → PrngReg)

/-- What point `t` writes back is block `t` of the whole result. -/
theorem flushed_eq (c : Dev nD) (t : Fin cfg0.N) :
    (dats m 0 c).flushed 2 t = ((cfg0.win 2).blk t).view.read (Elt Ideal) (whole (V m c main_arg0) (V m c main_arg1)) := by
  rw [flushed2]
  unfold out0_2
  rw [View.canon_unit_zero origin, View.ld_unit_zero origin, View.ld_unit_zero origin]
  funext y
  obtain ⟨j, rfl⟩ := block_idx y
  show k0_pay1 (F := Ideal) (iblk m c 0 t) (iblk m c 1 t) (ix3 0 0 j)
    = whole (V m c main_arg0) (V m c main_arg1) (((cfg0.win 2).blk t).view.emb (ix3 (0 : Fin 1) (0 : Fin 1) j))
  rw [ImportanceBlock.stored_apply, at_o]
  show importance (ImportanceBlock.scores (iblk m c 0 t) (iblk m c 1 t)) j
    = importance (scores (V m c main_arg0) (V m c main_arg1) (batch t)) j
  congr 1
  funext i l
  unfold ImportanceBlock.scores scores
  congr 1
  refine Finset.sum_congr rfl fun d _ => ?_
  exact congrArg₂ (fun x y : EReal => x * y) (congrArg (V m c main_arg0) (at_q t i d)) (congrArg (V m c main_arg1) (at_k t l d))

/-- Every index of the result lies in some point's block: that of its batch entry. -/
theorem covered (y : S32x1x8192.Idx) :
    ∃ t : Fin cfg0.N, (cfg0.win 2).flush t = true ∧ y ∈ ((cfg0.win 2).blk t).view.set := by
  have h0 : (y 0 : Nat) < 32 := (y 0).isLt
  let t : Fin cfg0.N := ⟨(y 0).val, lt_of_lt_of_eq h0 N_0.symm⟩
  let j : Fin 8192 := y 2
  have e : (ix3 (batch t) (0 : Fin 1) j : S32x1x8192.Idx) = y := funext fun a => by
    match a with
    | ⟨0, _⟩ => rfl
    | ⟨1, _⟩ => exact Subsingleton.elim (α := Fin 1) _ _
    | ⟨2, _⟩ => rfl
  have h : ((cfg0.win 2).blk t).view.emb (ix3 (0 : Fin 1) (0 : Fin 1) j : S1x1x8192.Idx) ∈ ((cfg0.win 2).blk t).view.set :=
    ((cfg0.win 2).blk t).view.emb_mem_set _
  exact ⟨t, flush0_2 _, ((at_o t j).trans e) ▸ h⟩

/-- So the result array ends at the whole result of the arguments as launched. -/
theorem final (c : Dev nD) : (dats m 0 c).arrAt 2 cfg0.N
    = whole (m ((c : Thread nD τ).loc main_arg0)) (m ((c : Thread nD τ).loc main_arg1)) :=
  ((dats m 0 c).arrAt_eq_of_cover 2 (whole (V m c main_arg0) (V m c main_arg1)) (fun t _ => flushed_eq m c t) covered).trans
    (by rw [V_main_arg0, V_main_arg1])

/-- Every run ends with the result array at the importance of every key and the arguments unchanged. -/
theorem run : θ_run defs (onTc (τ := τ) (main (F := Ideal))) ⟨m, fun _ => 0, ρ⟩ fun r => ∀ c : Dev nD,
      r.2.mem ((c : Thread nD τ).loc main_v0)
        = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.Proof.ImportanceArray

end
-- ==== Proof.ImportanceRefValue.lean ====
/- What the plain importance program (the inner products, the softmax and the sum over queries, on whole arrays) computes:
   entry `(b, 0, j)` of its result is the importance of key `j` of batch entry `b`, its scores divided by the root of
   sixty-four. -/
module

public import proofs.«01_k».proof.Proof.Gen.ImportanceRefIdeal.Run
public import proofs.«01_k».proof.Proof.Attention

@[expose] public section

set_option maxRecDepth 16384

noncomputable section

namespace Cert.Proof.ImportanceRefValue

open Cert.ImportanceRefIdeal Cert.ImportanceRefIdeal.Gen Cert.Proof.Attention
open Idealize.ShloMosaic Idealize.ShloMosaic.TcCoe Idealize.ShloMosaic.Pointwise Idealize.SL.Sem

/-- The scores of batch entry `b`: the inner products divided by the root of sixty-four. -/
def scores (q : Vec Ideal S32x16x64 .f32) (k : Vec Ideal S32x8192x64 .f32) (b : Fin 32) (i : Fin 16) (j : Fin 8192) : EReal :=
  Ideal.div (dot (fun i d => q (ix3 b i d)) (fun j d => k (ix3 b j d)) i j) (Ideal.sqrt (Ideal.ofBits .f32 0x42800000#32))

/-- The array of scores, as the program computes it. -/
def scored (q : FVec Ideal S32x16x64 .f32) (k : FVec Ideal S32x8192x64 .f32) : FVec Ideal S32x16x8192 .f32 :=
  Host.divf (Host.dotGeneral dot_S32x16x64_S32x8192x64_S32x16x8192_2_2_1_1_0_0 none q k)
    (broadcastInDim S32x16x8192 ![] bcast_S_S32x16x8192 (Host.sqrt (constant S_ .f32 0x42800000#32)))

/-- Each query's largest score. -/
def largest (s : FVec Ideal S32x16x8192 .f32) : FVec Ideal S32x16 .f32 :=
  Host.reduce FloatOps.maximumf s (constant S_ .f32 0xFF800000#32) reducesTo_S32x16x8192_S32x16_d2 h_S_

/-- One number for each query, its maximum with minus infinity, repeated over the keys. -/
def spread (r : FVec Ideal S32x16 .f32) : FVec Ideal S32x16x8192 .f32 :=
  broadcastInDim S32x16x8192 ![0, 1, 2] bcast_S32x16x1_S32x16x8192_0_1_2
    (broadcastInDim S32x16x1 ![0, 1] bcast_S32x16_S32x16x1_0_1
      (maximumf (broadcastInDim S32x16 ![] bcast_S_S32x16 (constant S_ .f32 0xFF800000#32)) r))

/-- Each query's sum over the keys, repeated over the keys. -/
def totals (e : FVec Ideal S32x16x8192 .f32) : FVec Ideal S32x16x8192 .f32 :=
  broadcastInDim S32x16x8192 ![0, 1, 2] bcast_S32x16x1_S32x16x8192_0_1_2
    (broadcastInDim S32x16x1 ![0, 1] bcast_S32x16_S32x16x1_0_1
      (Host.reduceAdd e (constant S_ .f32 0x00000000#32) reducesTo_S32x16x8192_S32x16_d2 h_S_))

/-- The sum over the queries, with the middle axis put back. -/
def summed (w : FVec Ideal S32x16x8192 .f32) : FVec Ideal S32x1x8192 .f32 :=
  broadcastInDim S32x1x8192 ![0, 2] bcast_S32x8192_S32x1x8192_0_2
    (Host.reduceAdd w (constant S_ .f32 0x00000000#32) reducesTo_S32x16x8192_S32x8192_d1 h_S_)

/-- The result of the program as a function of the array of scores. -/
def result (s : FVec Ideal S32x16x8192 .f32) : FVec Ideal S32x1x8192 .f32 :=
  summed (Host.divf (Host.exp (subf s (spread (largest s)))) (totals (Host.exp (subf s (spread (largest s))))))

/-- Each entry of the array of scores. -/
theorem scored_apply (q : FVec Ideal S32x16x64 .f32) (k : FVec Ideal S32x8192x64 .f32) (b : Fin 32) (i : Fin 16) (j : Fin 8192) :
    scored q k (ix3 b i j) = scores q k b i j := by
  pointwise [scored]
  rfl

/-- The largest score of one query. -/
theorem largest_apply (s : FVec Ideal S32x16x8192 .f32) (b : Fin 32) (i : Fin 16) :
    largest s (ix2 b i) = top fun l => s (ix3 b i l) := by
  unfold largest top
  exact Attention.largest_apply reducesTo_S32x16x8192_S32x16_d2 h_S_ s b i

/-- The repeated number is the query's own. -/
theorem spread_apply (r : FVec Ideal S32x16 .f32) (b : Fin 32) (i : Fin 16) (j : Fin 8192) :
    spread r (ix3 b i j) = r (ix2 b i) := by
  pointwise [spread]
  exact max_bits_bot _

/-- The sum over the keys, at every key. -/
theorem totals_apply (e : FVec Ideal S32x16x8192 .f32) (b : Fin 32) (i : Fin 16) (j : Fin 8192) :
    totals e (ix3 b i j) = ∑ l, e (ix3 b i l) := by
  pointwise [totals]

/-- The sum over the queries, at one key. -/
theorem summed_apply (w : FVec Ideal S32x16x8192 .f32) (b : Fin 32) (j : Fin 8192) :
    summed w (ix3 b (0 : Fin 1) j) = ∑ i, w (ix3 b i j) := by
  pointwise [summed]

/-- One entry of the exponentials, before the division. -/
theorem shifted_apply (s t : FVec Ideal S32x16x8192 .f32) (y : S32x16x8192.Idx) :
    Host.exp (subf s t) y = Ideal.exp (s y - t y) := rfl

/-- One entry of the softmax weights: an exponential divided by its total. -/
theorem quotient_apply (e t : FVec Ideal S32x16x8192 .f32) (y : S32x16x8192.Idx) :
    Host.divf e t y = Ideal.div (e y) (t y) := rfl

/-- Each entry of the result: the importance of that key. -/
theorem result_apply (s : FVec Ideal S32x16x8192 .f32) (b : Fin 32) (j : Fin 8192) :
    result s (ix3 b (0 : Fin 1) j) = importance (fun i l => s (ix3 b i l)) j := by
  unfold result
  rw [summed_apply]
  unfold importance weight
  have e : ∀ i l, Host.exp (subf s (spread (largest s))) (ix3 b i l)
      = Ideal.exp (s (ix3 b i l) - top fun l => s (ix3 b i l)) := fun i l => by
    rw [shifted_apply, spread_apply, largest_apply]
  simp only [quotient_apply, totals_apply, e]

variable (m : (ℓ : Loc nD τ sig) → Buf (Elt Ideal) ℓ) (ρ : Dev nD → PrngReg)

/-- Every run ends with the result array at `result` of the scores, and the arguments unchanged. -/
theorem run : θ_run defs (onTc (τ := τ) (main (F := Ideal))) ⟨m, fun _ => 0, ρ⟩ fun r => ∀ c : Dev nD,
      r.2.mem ((c : Thread nD τ).loc main_v16)
        = result (scored (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  Cert.ImportanceRefIdeal.Value.run m ρ

end Cert.Proof.ImportanceRefValue

end
-- ==== Proof.ImportanceEquation.lean ====
/- The equation: over the extended reals the importance kernel and the plain importance program end with the same array. Their
   scores differ in spelling alone, a product with one eighth against a quotient by the root of sixty-four. -/
module

public import proofs.«01_k».proof.Defs
public import proofs.«01_k».proof.Proof.ImportanceArray
public import proofs.«01_k».proof.Proof.ImportanceRefValue

@[expose] public section

noncomputable section

namespace Cert.Proof.ImportanceEquation

open Idealize.ShloMosaic Idealize.ShloMosaic.Pointwise Idealize.SL.Sem

/-- The two arrays of scores agree. -/
theorem scores_eq (q : Vec Ideal Cert.ImportanceIdeal.S32x16x64 .f32) (k : Vec Ideal Cert.ImportanceIdeal.S32x8192x64 .f32)
    (b : Fin 32) : ImportanceRefValue.scores q k b = ImportanceArray.scores q k b :=
  funext fun _ => funext fun _ => Attention.scale_eq _

/-- Every index of the result is `(b, 0, j)`. -/
theorem result_idx (y : Cert.ImportanceIdeal.S32x1x8192.Idx) : ∃ (b : Fin 32) (j : Fin 8192), y = ix3 b (0 : Fin 1) j :=
  ⟨y 0, y 2, funext fun a => by
    match a with
    | ⟨0, _⟩ => rfl
    | ⟨1, _⟩ => exact Subsingleton.elim (α := Fin 1) _ _
    | ⟨2, _⟩ => rfl⟩

/-- The plain program's result is the kernel's, as arrays. -/
theorem whole_eq (q : Vec Ideal Cert.ImportanceIdeal.S32x16x64 .f32) (k : Vec Ideal Cert.ImportanceIdeal.S32x8192x64 .f32) :
    ImportanceRefValue.result (ImportanceRefValue.scored q k) = ImportanceArray.whole q k := by
  funext y
  obtain ⟨b, j, rfl⟩ := result_idx y
  rw [ImportanceRefValue.result_apply]
  show _ = Attention.importance (ImportanceArray.scores q k b) j
  rw [← scores_eq]
  congr 1
  funext i l
  exact ImportanceRefValue.scored_apply q k b i l

/-- The importance kernel computes the plain importance program's function of the queries and the keys. -/
theorem holds : Cert.algebraic_ImportanceIdeal_ImportanceRefIdeal (hImportanceIdeal := Cert.ImportanceIdeal.Gen.facts)
    (hImportanceRefIdeal := Cert.ImportanceRefIdeal.Gen.facts) := by
  intro m g m' g' _ same
  refine ⟨fun c => ImportanceArray.whole (m ((c.tc : Thread Cert.ImportanceIdeal.nD Cert.ImportanceIdeal.τ).loc Cert.ImportanceIdeal.main_arg0))
    (m ((c.tc : Thread Cert.ImportanceIdeal.nD Cert.ImportanceIdeal.τ).loc Cert.ImportanceIdeal.main_arg1)), ImportanceArray.run m g, ?_⟩
  refine (θ_run _ _ _).mono (fun r h c => ⟨(h c).1.trans ?_, (h c).2⟩) (ImportanceRefValue.run m' g')
  rw [(same c).1, (same c).2]
  exact whole_eq _ _

end Cert.Proof.ImportanceEquation

end
-- ==== Proof.FirstRows.lean ====
/- What the version's own program returns, over the extended reals: the first 384 rows of the keys, whatever the importance
   is. Its last lines add to those rows the importance times zero, and zero times any extended real is zero. -/
module

public import proofs.«01_k».proof.Defs
public import proofs.«01_k».proof.Proof.Gen.KernelIdeal.Frame
public import proofs.«01_k».proof.Proof.Gen.FirstRowsIdeal.Run
public import proofs.«01_k».proof.Proof.Attention

@[expose] public section

set_option maxRecDepth 16384

noncomputable section

namespace Cert.Proof.FirstRows

open Cert.KernelIdeal Cert.KernelIdeal.Gen
open Idealize.ShloMosaic Idealize.ShloMosaic.TcCoe Idealize.ShloMosaic.Pointwise Idealize.SL.Sem

/-- The last lines as one function of the keys and the importance. -/
def lastLines (k : FVec Ideal S32x8192x64 .f32) (imp : FVec Ideal S32x1x8192 .f32) : FVec Ideal S32x384x64 .f32 :=
  addf (extractStridedSlice S32x384x64 ![0, 0, 0] k slices_S32x8192x64_S32x384x64_0_0_0)
    (broadcastInDim S32x384x64 ![0, 1, 2] bcast_S32x384x1_S32x384x64_0_1_2
      (mulf
        (broadcastInDim S32x384x1 ![0, 1] bcast_S32x384_S32x384x1_0_1
          (extractStridedSlice S32x384 ![0, 0] (shapeCast S32x8192 imp shapeCasts_S32x1x8192_S32x8192) slices_S32x8192_S32x384_0_0))
        (broadcastInDim S32x384x1 ![] bcast_S_S32x384x1 (constant S_ .f32 0x00000000#32))))

/-- They return the first rows of the keys. -/
theorem lastLines_eq (k : FVec Ideal S32x8192x64 .f32) (imp : FVec Ideal S32x1x8192 .f32) :
    lastLines k imp = extractStridedSlice S32x384x64 ![0, 0, 0] k slices_S32x8192x64_S32x384x64_0_0_0 := by
  funext y
  unfold lastLines
  generalize extractStridedSlice S32x384 ![0, 0] (shapeCast S32x8192 imp shapeCasts_S32x1x8192_S32x8192) slices_S32x8192_S32x384_0_0 = r
  generalize extractStridedSlice S32x384x64 ![0, 0, 0] k slices_S32x8192x64_S32x384x64_0_0_0 = x
  idx_vars y
  pointwise
  rw [mul_zero]
  exact add_zero _

variable (m : (ℓ : Loc nD τ sig) → Buf (Elt Ideal) ℓ) (ρ : Dev nD → PrngReg)

/-- The last lines, run from any buffers, leave the result at `lastLines` of the keys' buffer and the importance's. -/
theorem after_ops (W : Valuation τ sig (Elt Ideal)) : StableHlo.after [hostOps1].flatten W (Proc.devRef .tc main_v8)
    = lastLines (W (Proc.devRef .tc main_arg1)) (W (Proc.devRef .tc main_v0)) := by
  unfold lastLines
  after_results
  rfl

/-- So the result's buffer ends at the first rows of the keys as launched. -/
theorem after_lines (c : Dev nD) : Pipeline.afterTail₀ cfgs (dats m) 0 (V0 m) [hostOps1] c main_v8
    = extractStridedSlice S32x384x64 ![0, 0, 0] (m ((c : Thread nD τ).loc main_arg1)) slices_S32x8192x64_S32x384x64_0_0_0 := by
  have hk : Pipeline.withArrays (cfgs 0).spec c (V0 m c) (fun w => (dats m 0 c).arrAt w (cfgs 0).N) (Proc.devRef .tc main_arg1)
      = m ((c : Thread nD τ).loc main_arg1) := by
    refine (Pipeline.withArrays_arr (cfgs 0).spec (by decide) c (V0 m c) _ 1).trans ?_
    exact ((dats m 0 c).arrAt_in 1 rfl _).trans ((A_eq m c 1).trans (V_main_arg1 m c))
  unfold Pipeline.afterTail₀
  rw [after_ops, lastLines_eq, hk]

/-- Every run ends with the result at the first 384 rows of the keys and the arguments unchanged. -/
theorem run : θ_run defs (onTc (τ := τ) (main (F := Ideal))) ⟨m, fun _ => 0, ρ⟩ fun r => ∀ c : Dev nD,
      r.2.mem ((c : Thread nD τ).loc main_v8)
        = extractStridedSlice S32x384x64 ![0, 0, 0] (m ((c : Thread nD τ).loc main_arg1)) slices_S32x8192x64_S32x384x64_0_0_0
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, h.1 c⟩)
    (θ_run_and (unchanged m ρ) (run_main m ρ))
  exact ((h.2 c).2 main_v8 (by decide)).trans (after_lines m c)

/-- The version's program computes the first 384 rows of the keys, at every input. -/
theorem holds : Cert.algebraic_KernelIdeal_FirstRowsIdeal (hKernelIdeal := Cert.KernelIdeal.Gen.facts)
    (hFirstRowsIdeal := Cert.FirstRowsIdeal.Gen.facts) := by
  intro m g m' g' _ same
  refine ⟨_, run m g, ?_⟩
  refine (θ_run _ _ _).mono (fun r h c => ⟨(h c).1.trans ?_, (h c).2⟩) (Cert.FirstRowsIdeal.Value.run (F := Ideal) m' g')
  rw [(same c).2]

end Cert.Proof.FirstRows

end
-- ==== Proof.HostFrames.lean ====
/- The programs without a kernel in them end, leave their arguments unchanged and, having no semaphores at all, leave every
   counter at zero. -/
module

public import proofs.«01_k».proof.Defs
public import proofs.«01_k».proof.Proof.Gen.ImportanceRefIdeal.Run
public import proofs.«01_k».proof.Proof.Gen.FirstRowsIdeal.Run
public import proofs.«01_k».proof.Proof.Gen.ReferenceIdeal.Run
public import proofs.«01_k».proof.Proof.Gen.ReferenceAtIdeal.Run
public import Idealize.ShloMosaic.Lib.Quiescent

@[expose] public section

noncomputable section

namespace Cert.Proof.HostFrames

open Idealize.ShloMosaic Idealize.SL.Sem

/-- The plain importance program. -/
theorem importance : Cert.quiescent_ImportanceRefIdeal (hImportanceRefIdeal := Cert.ImportanceRefIdeal.Gen.facts) :=
  fun m g _ => (θ_run _ _ _).mono (fun r h => ⟨fun c => (h c).2, sem_eq_zero_of_no_sems rfl r.2⟩)
    (Cert.ImportanceRefIdeal.Value.run (F := Ideal) m g)

/-- The first rows of the keys. -/
theorem firstRows : Cert.quiescent_FirstRowsIdeal (hFirstRowsIdeal := Cert.FirstRowsIdeal.Gen.facts) :=
  fun m g _ => (θ_run _ _ _).mono (fun r h => ⟨fun c => (h c).2, sem_eq_zero_of_no_sems rfl r.2⟩)
    (Cert.FirstRowsIdeal.Value.run (F := Ideal) m g)

/-- The reference. -/
theorem reference : Cert.quiescent_ReferenceIdeal (hReferenceIdeal := Cert.ReferenceIdeal.Gen.facts) :=
  fun m g _ => (θ_run _ _ _).mono (fun r h => ⟨fun c => (h c).2, sem_eq_zero_of_no_sems rfl r.2⟩)
    (Cert.ReferenceIdeal.Value.run (F := Ideal) m g)

/-- The reference at the inputs built from one number. -/
theorem referenceAt : Cert.quiescent_ReferenceAtIdeal (hReferenceAtIdeal := Cert.ReferenceAtIdeal.Gen.facts) :=
  fun m g _ => (θ_run _ _ _).mono (fun r h => ⟨fun c => (h c).2, sem_eq_zero_of_no_sems rfl r.2⟩)
    (Cert.ReferenceAtIdeal.Value.run (F := Ideal) m g)

end Cert.Proof.HostFrames

end
-- ==== Proof.KernelAtValue.lean ====
/- What the version's program returns on the arrays built from one number `x`, every row of the keys but the last being zero:
   it returns the first rows of the keys, so the first entry of its result is zero. -/
module

public import proofs.«01_k».proof.Proof.Gen.KernelAtIdeal.Frame
public import Idealize.ShloMosaic.Lib.Pointwise

@[expose] public section

set_option maxRecDepth 16384

noncomputable section

namespace Cert.Proof.KernelAtValue

open Cert.KernelAtIdeal Cert.KernelAtIdeal.Gen
open Idealize.ShloMosaic Idealize.ShloMosaic.TcCoe Idealize.ShloMosaic.Pointwise Idealize.SL.Sem

/-- The keys: `x` in the last row, zero in the others. -/
def keys (x : FVec Ideal S1x1x1 .f32) : FVec Ideal S32x8192x64 .f32 :=
  select
    (cmpi .eq (iotaInDim S32x8192x64 32 1) (broadcastInDim S32x8192x64 ![] bcast_S_S32x8192x64 (constantI S_ 32 8191#32)))
    (broadcastInDim S32x8192x64 ![0, 1, 2] bcast_S1x1x1_S32x8192x64_0_1_2 x)
    (broadcastInDim S32x8192x64 ![] bcast_S_S32x8192x64 (constant S_ .f32 0x00000000#32))

/-- Their first entry is zero, whatever `x` is. -/
theorem keys_first (x : FVec Ideal S1x1x1 .f32) : keys x (ix3 (0 : Fin 32) (0 : Fin 8192) (0 : Fin 64)) = 0 := by
  pointwise [keys]
  rfl

/-- The last lines as one function of the keys and the importance. -/
def lastLines (k : FVec Ideal S32x8192x64 .f32) (imp : FVec Ideal S32x1x8192 .f32) : FVec Ideal S32x384x64 .f32 :=
  addf (extractStridedSlice S32x384x64 ![0, 0, 0] k slices_S32x8192x64_S32x384x64_0_0_0)
    (broadcastInDim S32x384x64 ![0, 1, 2] bcast_S32x384x1_S32x384x64_0_1_2
      (mulf
        (broadcastInDim S32x384x1 ![0, 1] bcast_S32x384_S32x384x1_0_1
          (extractStridedSlice S32x384 ![0, 0] (shapeCast S32x8192 imp shapeCasts_S32x1x8192_S32x8192) slices_S32x8192_S32x384_0_0))
        (broadcastInDim S32x384x1 ![] bcast_S_S32x384x1 (constant S_ .f32 0x00000000#32))))

/-- Their first entry is the keys' first entry: the importance is multiplied by zero. -/
theorem lastLines_first (k : FVec Ideal S32x8192x64 .f32) (imp : FVec Ideal S32x1x8192 .f32) :
    lastLines k imp (ix3 (0 : Fin 32) (0 : Fin 384) (0 : Fin 64)) = k (ix3 (0 : Fin 32) (0 : Fin 8192) (0 : Fin 64)) := by
  unfold lastLines
  generalize extractStridedSlice S32x384 ![0, 0] (shapeCast S32x8192 imp shapeCasts_S32x1x8192_S32x8192) slices_S32x8192_S32x384_0_0 = r
  pointwise
  rw [mul_zero]
  exact add_zero _

variable (m : (ℓ : Loc nD τ sig) → Buf (Elt Ideal) ℓ) (ρ : Dev nD → PrngReg)

/-- The last lines, run from any buffers, leave the result at `lastLines` of the keys' buffer and the importance's. -/
theorem after_ops (W : Valuation τ sig (Elt Ideal)) : StableHlo.after [hostOps1].flatten W (Proc.devRef .tc main_v14)
    = lastLines (W (Proc.devRef .tc main_v5)) (W (Proc.devRef .tc main_v6)) := by
  unfold lastLines
  after_results
  rfl

/-- The lines before the call leave the keys' buffer at `keys` of the argument. -/
theorem before_ops (W : Valuation τ sig (Elt Ideal)) :
    StableHlo.after (List.flatten [hostOps0, hostOps0_1]) W (Proc.devRef .tc main_v5) = keys (W (Proc.devRef .tc main_arg0)) := by
  unfold keys
  simp only [hostOps0, hostOps0_1, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp

/-- So the result's buffer begins with zero. -/
theorem after_lines (c : Dev nD) : Pipeline.afterTail₀ cfgs (dats m) 0 (V0 m) [hostOps1] c main_v14
    (ix3 (0 : Fin 32) (0 : Fin 384) (0 : Fin 64)) = (0 : EReal) := by
  have hk : Pipeline.withArrays (cfgs 0).spec c (V0 m c) (fun w => (dats m 0 c).arrAt w (cfgs 0).N) (Proc.devRef .tc main_v5)
      = keys (m ((c : Thread nD τ).loc main_arg0)) := by
    refine (Pipeline.withArrays_arr (cfgs 0).spec (by decide) c (V0 m c) _ 1).trans ?_
    exact ((dats m 0 c).arrAt_in 1 rfl _).trans ((A_eq m c 1).trans (before_ops _))
  unfold Pipeline.afterTail₀
  rw [after_ops, hk]
  exact (lastLines_first _ _).trans (keys_first _)

/-- Every run ends with a zero as the first entry of the result. -/
theorem run : θ_run defs (onTc (τ := τ) (main (F := Ideal))) ⟨m, fun _ => 0, ρ⟩ fun r => ∀ c : Dev nD,
      r.2.mem ((c : Thread nD τ).loc main_v14) (ix3 (0 : Fin 32) (0 : Fin 384) (0 : Fin 64)) = (0 : EReal) := by
  refine (θ_run defs _ _).mono (fun r h c => ?_) (run_main m ρ)
  exact (congrFun ((h c).2 main_v14 (by decide)) _).trans (after_lines m c)

end Cert.Proof.KernelAtValue

end
-- ==== Proof.Peak.lean ====
/- The importance when every query scores one key at eight and all the others at zero: that key's importance exceeds every
   other's. -/
module

public import proofs.«01_k».proof.Proof.Attention

@[expose] public section

noncomputable section

namespace Cert.Proof.Peak

open Cert.Proof.Attention
open Idealize.ShloMosaic Idealize.ShloMosaic.Pointwise

/-- A finite sum of real numbers, taken over the extended reals, is that sum. -/
theorem sum_real {ι : Type} (t : Finset ι) (f : ι → ℝ) : (∑ l ∈ t, ((f l : ℝ) : EReal)) = ((∑ l ∈ t, f l : ℝ) : EReal) := by
  classical
  induction t using Finset.induction_on with
  | empty => simp
  | insert a t ha ih => rw [Finset.sum_insert ha, Finset.sum_insert ha, ih, EReal.coe_add]

/-- Scores with one peak: eight at key `p`, zero elsewhere. -/
def peak (p j : Fin 8192) : ℝ := if j = p then 8 else 0

/-- The largest of them is eight. -/
theorem top_peak (p : Fin 8192) : top (fun j => ((peak p j : ℝ) : EReal)) = ((8 : ℝ) : EReal) := by
  unfold top
  refine le_antisymm (Finset.sup_le fun j _ => ?_) ?_
  · rw [EReal.coe_le_coe_iff]
    unfold peak
    split <;> norm_num
  · have h := Finset.le_sup (f := fun j => ((peak p j : ℝ) : EReal)) (Finset.mem_univ p)
    have e : peak p p = 8 := if_pos rfl
    simp only [e] at h
    exact h

/-- The sum the weights are divided by. -/
def total (p : Fin 8192) : ℝ := ∑ l, Real.exp (peak p l - 8)

/-- It is positive. -/
theorem total_pos (p : Fin 8192) : 0 < total p :=
  Finset.sum_pos (fun l _ => Real.exp_pos _) ⟨p, Finset.mem_univ p⟩

/-- Each weight is a real number. -/
theorem weight_peak (p j : Fin 8192) : weight (fun j => ((peak p j : ℝ) : EReal)) j
    = ((Real.exp (peak p j - 8) * (1 / total p) : ℝ) : EReal) := by
  unfold weight
  rw [top_peak]
  simp only [← EReal.coe_sub, Ideal.exp_coe]
  rw [sum_real]
  change Ideal.div _ ((total p : ℝ) : EReal) = _
  rw [Ideal.div_coe (total_pos p).ne', ← EReal.coe_mul]

/-- So is each importance, -/
theorem importance_peak (p j : Fin 8192) : importance (fun _ j => ((peak p j : ℝ) : EReal)) j
    = ((16 * (Real.exp (peak p j - 8) * (1 / total p)) : ℝ) : EReal) := by
  unfold importance
  simp only [weight_peak]
  rw [sum_real, Finset.sum_const, Finset.card_univ, Fintype.card_fin, nsmul_eq_mul]
  norm_num

/-- and the peak's is the one largest. -/
theorem importance_lt (p j : Fin 8192) (h : j ≠ p) : importance (fun _ j => ((peak p j : ℝ) : EReal)) j
    < importance (fun _ j => ((peak p j : ℝ) : EReal)) p := by
  rw [importance_peak, importance_peak, EReal.coe_lt_coe_iff]
  have hp : 0 < 1 / total p := one_div_pos.mpr (total_pos p)
  have e : Real.exp (peak p j - 8) < Real.exp (peak p p - 8) := by
    rw [Real.exp_lt_exp]
    unfold peak
    rw [if_neg h, if_pos rfl]
    norm_num
  exact mul_lt_mul_of_pos_left (mul_lt_mul_of_pos_right e hp) (by norm_num)

end Cert.Proof.Peak

end
-- ==== Proof.TopIndex.lean ====
/- Which key a descending sort puts first, and how a row is then read: if one entry of a line exceeds all the others, the
   first index that the largest-first selection returns is its position. -/
module

public import Idealize.ShloMosaic.Lib.Pointwise
public import Idealize.ShloMosaic.Lib.SortFacts

@[expose] public section

noncomputable section

namespace Cert.Proof.TopIndex

open Idealize.ShloMosaic Idealize.ShloMosaic.Pointwise

/-- The order the selection sorts by puts the larger number first. -/
theorem before_eq (x y : EReal) :
    (FloatOps.cmpfTotal (F := Ideal) (φ := .f32) .gt x y == 1#1) = decide (y < x) := by
  show (BitVec.ofBool (decide (y < x)) == 1#1) = decide (y < x)
  cases decide (y < x) <;> rfl

/-- Sorted largest first, a line with one entry above all the others begins with it. -/
theorem first_sorted {n : Nat} (x : Fin n → EReal) (p z : Fin n) (hz : z.val = 0) (h : ∀ j, j ≠ p → x j < x p) :
    sortedFrom (fun k k' => FloatOps.cmpfTotal (F := Ideal) (φ := .f32) .gt (x k) (x k') == 1#1) z = p := by
  simp only [before_eq]
  obtain ⟨j, hj⟩ := sortedFrom_surjective (fun k k' => decide (x k' < x k)) p
  by_cases e : j = z
  · rw [← e, hj]
  · have hlt : z < j := Fin.lt_def.mpr (by
      have : j.val ≠ z.val := fun q => e (Fin.ext q)
      omega)
    have ho := sortedFrom_noInversion (fun k k' => decide (x k' < x k)) (fun k k' => decide (x k' < x k))
      (fun a b hab => by simp only [decide_eq_true_eq] at hab; simp only [decide_eq_false_iff_not]; exact not_lt_of_gt hab)
      (fun _ _ hab => hab)
      (fun a b c hab hbc => by
        simp only [decide_eq_false_iff_not, not_lt] at hab hbc ⊢; exact hab.trans hbc) z j hlt
    rw [hj] at ho
    simp only [decide_eq_false_iff_not] at ho
    by_contra hne
    exact ho (h _ hne)

/-- The first index selected in line `b` of a rank-2 array is the position of that line's one largest entry. -/
theorem first_selected {n0 n1 k : Nat} (hs : (⟨2, ![n0, n1]⟩ : Shape).Slices (fun _ => 0) ⟨2, ![n0, k]⟩)
    (x : FVec Ideal ⟨2, ![n0, n1]⟩ .f32) (b : Fin n0) (z : Fin k) (hz : z.val = 0) (p : Fin n1)
    (h : ∀ j, j ≠ p → x (ix2 b j) < x (ix2 b p)) :
    (Host.topK ⟨2, ![n0, k]⟩ 1 (FloatOps.cmpfTotal (F := Ideal) (φ := .f32) .gt) x hs).2 (ix2 b z)
      = BitVec.ofNat 32 p.val := by
  have hz1 : 0 < n1 := p.pos
  have e := first_sorted (fun j => x (ix2 b j)) p ⟨0, hz1⟩ rfl h
  have key : ∀ J : (⟨2, ![n0, n1]⟩ : Shape).Idx, J = ix2 b (⟨0, hz1⟩ : Fin n1) →
      iotaInDim ⟨2, ![n0, n1]⟩ 32 1 (J.along 1 (sortedFrom (fun k k' =>
        FloatOps.cmpfTotal (F := Ideal) (φ := .f32) .gt (x (J.along 1 k)) (x (J.along 1 k')) == 1#1) (J 1)))
        = BitVec.ofNat 32 p.val := by
    rintro J rfl
    have hl : ∀ q : Fin n1, (Shape.Idx.along (s := ⟨2, ![n0, n1]⟩) (ix2 b (⟨0, hz1⟩ : Fin n1)) 1 q) = ix2 b q := fun q => by
      funext a
      match a with
      | ⟨0, _⟩ => rfl
      | ⟨1, _⟩ => rfl
    have es : (sortedFrom (fun k k' : Fin n1 => FloatOps.cmpfTotal (F := Ideal) (φ := .f32) .gt
        (x (Shape.Idx.along (s := ⟨2, ![n0, n1]⟩) (ix2 b (⟨0, hz1⟩ : Fin n1)) 1 k))
        (x (Shape.Idx.along (s := ⟨2, ![n0, n1]⟩) (ix2 b (⟨0, hz1⟩ : Fin n1)) 1 k')) == 1#1) ⟨0, hz1⟩) = p := by
      simp only [hl]
      exact e
    exact congrArg (fun q => iotaInDim ⟨2, ![n0, n1]⟩ 32 1
      (Shape.Idx.along (s := ⟨2, ![n0, n1]⟩) (ix2 b (⟨0, hz1⟩ : Fin n1)) 1 q)) es |>.trans (by rw [hl]; rfl)
  unfold Host.topK Host.sort2 extractStridedSlice
  dsimp only
  rw [dif_pos (by decide : 1 < 2)]
  refine key _ ?_
  funext a
  refine Fin.ext ?_
  match a with
  | ⟨0, _⟩ => exact Nat.zero_add _
  | ⟨1, _⟩ => exact (Nat.zero_add _).trans hz

end Cert.Proof.TopIndex

end
-- ==== Proof.ReferenceAtValue.lean ====
/- What the reference computes at the arrays built from one number `x`: every query is all `x`, the last row of the keys is
   all `x` and the other rows are zero. At `x = 1` that last key alone scores eight and the others zero, so it is the first
   key selected and the first entry of the result is one. -/
module

public import proofs.«01_k».proof.Proof.Gen.ReferenceAtIdeal.Run
public import proofs.«01_k».proof.Proof.Peak
public import proofs.«01_k».proof.Proof.TopIndex

@[expose] public section

set_option maxRecDepth 16384

noncomputable section

namespace Cert.Proof.ReferenceAtValue

open Cert.ReferenceAtIdeal Cert.ReferenceAtIdeal.Gen Cert.Proof.Attention
open Idealize.ShloMosaic Idealize.ShloMosaic.TcCoe Idealize.ShloMosaic.Pointwise Idealize.SL.Sem

/-- The queries: `x` everywhere. -/
def queries (x : FVec Ideal S1x1x1 .f32) : FVec Ideal S32x16x64 .f32 :=
  broadcastInDim S32x16x64 ![0, 1, 2] bcast_S1x1x1_S32x16x64_0_1_2 x

/-- The keys: `x` in the last row, zero in the others. -/
def keys (x : FVec Ideal S1x1x1 .f32) : FVec Ideal S32x8192x64 .f32 :=
  select
    (cmpi .eq (iotaInDim S32x8192x64 32 1) (broadcastInDim S32x8192x64 ![] bcast_S_S32x8192x64 (constantI S_ 32 8191#32)))
    (broadcastInDim S32x8192x64 ![0, 1, 2] bcast_S1x1x1_S32x8192x64_0_1_2 x)
    (broadcastInDim S32x8192x64 ![] bcast_S_S32x8192x64 (constant S_ .f32 0x00000000#32))

/-- The array of scores. -/
def scored (q : FVec Ideal S32x16x64 .f32) (k : FVec Ideal S32x8192x64 .f32) : FVec Ideal S32x16x8192 .f32 :=
  Host.divf (Host.dotGeneral dot_S32x16x64_S32x8192x64_S32x16x8192_2_2_1_1_0_0 none q k)
    (broadcastInDim S32x16x8192 ![] bcast_S_S32x16x8192 (Host.sqrt (constant S_ .f32 0x42800000#32)))

/-- Each query's largest score. -/
def largest (s : FVec Ideal S32x16x8192 .f32) : FVec Ideal S32x16 .f32 :=
  Host.reduce FloatOps.maximumf s (constant S_ .f32 0xFF800000#32) reducesTo_S32x16x8192_S32x16_d2 h_S_

/-- One number for each query, its maximum with minus infinity, repeated over the keys. -/
def spread (r : FVec Ideal S32x16 .f32) : FVec Ideal S32x16x8192 .f32 :=
  broadcastInDim S32x16x8192 ![0, 1, 2] bcast_S32x16x1_S32x16x8192_0_1_2
    (broadcastInDim S32x16x1 ![0, 1] bcast_S32x16_S32x16x1_0_1
      (maximumf (broadcastInDim S32x16 ![] bcast_S_S32x16 (constant S_ .f32 0xFF800000#32)) r))

/-- Each query's sum over the keys, repeated over the keys. -/
def totals (e : FVec Ideal S32x16x8192 .f32) : FVec Ideal S32x16x8192 .f32 :=
  broadcastInDim S32x16x8192 ![0, 1, 2] bcast_S32x16x1_S32x16x8192_0_1_2
    (broadcastInDim S32x16x1 ![0, 1] bcast_S32x16_S32x16x1_0_1
      (Host.reduceAdd e (constant S_ .f32 0x00000000#32) reducesTo_S32x16x8192_S32x16_d2 h_S_))

/-- The sum over the queries. -/
def summed (w : FVec Ideal S32x16x8192 .f32) : FVec Ideal S32x8192 .f32 :=
  Host.reduceAdd w (constant S_ .f32 0x00000000#32) reducesTo_S32x16x8192_S32x8192_d1 h_S_

/-- The importance of every key, from the scores. -/
def important (s : FVec Ideal S32x16x8192 .f32) : FVec Ideal S32x8192 .f32 :=
  summed (Host.divf (Host.exp (subf s (spread (largest s)))) (totals (Host.exp (subf s (spread (largest s))))))

/-- The positions of the 384 most important keys. -/
def selected (i : FVec Ideal S32x8192 .f32) : IVec S32x384 32 :=
  (Host.topK S32x384 1 (FloatOps.cmpfTotal (F := Ideal) (φ := .f32) .gt) i sliceFits_S32x8192_S32x384).2

/-- Those positions, a negative one counted from the end. -/
def wrapped (p : IVec S32x384 32) : IVec S32x384x1 32 :=
  select
    (cmpi .slt (broadcastInDim S32x384x1 ![0, 1] bcast_S32x384_S32x384x1_0_1 p)
      (broadcastInDim S32x384x1 ![] bcast_S_S32x384x1 (constantI S_ 32 0#32)))
    (addi (broadcastInDim S32x384x1 ![0, 1] bcast_S32x384_S32x384x1_0_1 p)
      (broadcastInDim S32x384x1 ![] bcast_S_S32x384x1 (constantI S_ 32 8192#32)))
    (broadcastInDim S32x384x1 ![0, 1] bcast_S32x384_S32x384x1_0_1 p)

/-- Whether each position lies between 0 and 8191. -/
def inside (n : IVec S32x384x1 32) : IVec S32x384 1 :=
  Host.reduce IntOp.andi
    (andi (cmpi .sge n (broadcastInDim S32x384x1 ![] bcast_S_S32x384x1 (constantI S_ 32 0#32)))
      (cmpi .sle n (broadcastInDim S32x384x1 ![0, 1, 2] bcast_S1x1x1_S32x384x1_0_1_2
        (broadcastInDim S1x1x1 ![2] bcast_S1_S1x1x1_2 (constantI S1 32 8191#32)))))
    (constantI S_ 1 1#1) reducesTo_S32x384x1_S32x384_d2 h_S_

/-- The rows of the keys at those positions. -/
def rows (k : FVec Ideal S32x8192x64 .f32) (n : IVec S32x384x1 32) : FVec Ideal S32x384x64 .f32 :=
  select (broadcastInDim S32x384x64 ![0, 1] bcast_S32x384_S32x384x64_0_1 (inside n))
    (Host.gather gather_S32x8192x64_S32x384x1_S32x384x64_2_1_0_0_1_2_1164 k n)
    (broadcastInDim S32x384x64 ![] bcast_S_S32x384x64 (constant S_ .f32 0x7FC00000#32))

/-- The reference's result. -/
def result (x : FVec Ideal S1x1x1 .f32) : FVec Ideal S32x384x64 .f32 :=
  rows (keys x) (wrapped (selected (important (scored (queries x) (keys x)))))

variable (m : (ℓ : Loc nD τ sig) → Buf (Elt Ideal) ℓ) (ρ : Dev nD → PrngReg)

/-- Every run ends with the result array at `result` of the argument. -/
theorem run : θ_run defs (onTc (τ := τ) (main (F := Ideal))) ⟨m, fun _ => 0, ρ⟩ fun r => ∀ c : Dev nD,
      r.2.mem ((c : Thread nD τ).loc main_v23) = result (m ((c : Thread nD τ).loc main_arg0)) :=
  (θ_run _ _ _).mono (fun _ h c => (h c).1) (Cert.ReferenceAtIdeal.Value.run m ρ)

/-- Each entry of the queries. -/
theorem queries_apply (x : FVec Ideal S1x1x1 .f32) (b : Fin 32) (i : Fin 16) (d : Fin 64) :
    queries x (ix3 b i d) = x (ix3 (0 : Fin 1) (0 : Fin 1) (0 : Fin 1)) := by
  pointwise [queries]

/-- Each entry of the keys. -/
theorem keys_apply (x : FVec Ideal S1x1x1 .f32) (b : Fin 32) (j : Fin 8192) (d : Fin 64) :
    keys x (ix3 b j d) = if j = (8191 : Fin 8192) then x (ix3 (0 : Fin 1) (0 : Fin 1) (0 : Fin 1)) else 0 := by
  pointwise [keys]
  have e : (BitVec.ofNat 32 j.val == 8191#32) = decide (j = (8191 : Fin 8192)) := by
    rw [Bool.eq_iff_iff, beq_iff_eq, decide_eq_true_iff, Fin.ext_iff]
    constructor
    · intro h
      have h' := congrArg BitVec.toNat h
      rw [BitVec.toNat_ofNat, BitVec.toNat_ofNat] at h'
      have hj := j.isLt
      show j.val = 8191
      omega
    · intro h
      have h' : j.val = 8191 := h
      rw [h']
  show Scalar.select (BitVec.ofBool (BitVec.ofNat 32 j.val == 8191#32)) _ _ = _
  rw [e]
  by_cases h : j = (8191 : Fin 8192)
  · rw [if_pos h, decide_eq_true h]; rfl
  · rw [if_neg h, decide_eq_false h]; rfl

/-- A first position of 8191 is not negative, so it is kept, -/
theorem wrapped_apply (p : IVec S32x384 32) (h : p (ix2 (0 : Fin 32) (0 : Fin 384)) = 8191#32) :
    wrapped p (ix3 (0 : Fin 32) (0 : Fin 384) (0 : Fin 1)) = 8191#32 := by
  pointwise [wrapped]
  rw [h]
  decide

/-- and it lies inside the keys. -/
theorem inside_apply (n : IVec S32x384x1 32) (h : n (ix3 (0 : Fin 32) (0 : Fin 384) (0 : Fin 1)) = 8191#32) :
    inside n (ix2 (0 : Fin 32) (0 : Fin 384)) = 1#1 := by
  unfold inside
  rw [Host.reduce_eq_fold, Shape.ReducesTo.fold_fiber_r3_a2, Finset.univ_unique, Finset.fold_singleton]
  show IntOp.andi (IntOp.andi (IntOp.cmpi .sge (n (ix3 (0 : Fin 32) (0 : Fin 384) (0 : Fin 1))) 0#32)
    (IntOp.cmpi .sle (n (ix3 (0 : Fin 32) (0 : Fin 384) (0 : Fin 1))) 8191#32)) 1#1 = 1#1
  rw [h]
  decide

/-- With 8191 as the first position, the first row gathered is row 8191 of the keys. -/
theorem gathered_row (n : IVec S32x384x1 32) (h : n (ix3 (0 : Fin 32) (0 : Fin 384) (0 : Fin 1)) = 8191#32) :
    ((gather_S32x8192x64_S32x384x1_S32x384x64_2_1_0_0_1_2_1164).operandIdx
      (ix3 (0 : Fin 32) (0 : Fin 384) (0 : Fin 64)) n 1).val = 8191 := by
  generalize hd : gather_S32x8192x64_S32x384x1_S32x384x64_2_1_0_0_1_2_1164 = D
  show D.start _ n 1 + D.batchCoord _ 1 + D.offCoord _ 1 = _
  rw [GatherDims.batchCoord_eq_zero _ _ _ (by subst hd; decide), GatherDims.offCoord_eq_zero _ _ _ (by subst hd; decide)]
  unfold GatherDims.start
  have h1 : (1 : Fin S32x8192x64.rank) ∈ D.startIndexMap := by subst hd; exact List.mem_singleton.mpr rfl
  rw [dif_pos h1]
  have hsi : D.siIdx (ix3 (0 : Fin 32) (0 : Fin 384) (0 : Fin 64))
      ⟨List.idxOf (1 : Fin S32x8192x64.rank) D.startIndexMap, List.idxOf_lt_length_iff.2 h1⟩
      = ix3 (0 : Fin 32) (0 : Fin 384) (0 : Fin 1) := by
    subst hd
    funext b
    refine Fin.ext ?_
    match b with
    | ⟨0, _⟩ => rfl
    | ⟨1, _⟩ => rfl
    | ⟨2, _⟩ => rfl
  rw [hsi, h]
  subst hd
  rfl

/-- The first entry of the result, when 8191 is the first position: the first entry of some row 8191 of the keys. -/
theorem rows_apply (k : FVec Ideal S32x8192x64 .f32) (n : IVec S32x384x1 32)
    (h : n (ix3 (0 : Fin 32) (0 : Fin 384) (0 : Fin 1)) = 8191#32) :
    ∃ (b : Fin 32) (d : Fin 64), rows k n (ix3 (0 : Fin 32) (0 : Fin 384) (0 : Fin 64)) = k (ix3 b (8191 : Fin 8192) d) := by
  have e := gathered_row n h
  have m := inside_apply n h
  unfold rows
  generalize inside n = z at m
  refine ⟨(gather_S32x8192x64_S32x384x1_S32x384x64_2_1_0_0_1_2_1164).operandIdx (ix3 (0 : Fin 32) (0 : Fin 384) (0 : Fin 64)) n 0,
    (gather_S32x8192x64_S32x384x1_S32x384x64_2_1_0_0_1_2_1164).operandIdx (ix3 (0 : Fin 32) (0 : Fin 384) (0 : Fin 64)) n 2, ?_⟩
  have g : Host.gather gather_S32x8192x64_S32x384x1_S32x384x64_2_1_0_0_1_2_1164 k n (ix3 (0 : Fin 32) (0 : Fin 384) (0 : Fin 64))
      = k (ix3 ((gather_S32x8192x64_S32x384x1_S32x384x64_2_1_0_0_1_2_1164).operandIdx (ix3 (0 : Fin 32) (0 : Fin 384) (0 : Fin 64)) n 0)
        (8191 : Fin 8192)
        ((gather_S32x8192x64_S32x384x1_S32x384x64_2_1_0_0_1_2_1164).operandIdx (ix3 (0 : Fin 32) (0 : Fin 384) (0 : Fin 64)) n 2)) := by
    unfold Host.gather
    congr 1
    funext a
    match a with
    | ⟨0, _⟩ => rfl
    | ⟨1, _⟩ => exact Fin.ext e
    | ⟨2, _⟩ => rfl
  rw [← g]
  generalize Host.gather gather_S32x8192x64_S32x384x1_S32x384x64_2_1_0_0_1_2_1164 k n = y
  pointwise
  rw [m]
  rfl

/-! ## The scores and the importance at `x = 1` -/

/-- One score: the inner product divided by the root of sixty-four. -/
theorem scored_apply (q : FVec Ideal S32x16x64 .f32) (k : FVec Ideal S32x8192x64 .f32) (b : Fin 32) (i : Fin 16) (j : Fin 8192) :
    scored q k (ix3 b i j) = Ideal.div (dot (fun i d => q (ix3 b i d)) (fun j d => k (ix3 b j d)) i j)
      (Ideal.sqrt (Ideal.ofBits .f32 0x42800000#32)) := by
  pointwise [scored]
  rfl

/-- The last key scores eight with every query, the others zero. -/
theorem scored_one (x : FVec Ideal S1x1x1 .f32) (hx : x (ix3 (0 : Fin 1) (0 : Fin 1) (0 : Fin 1)) = 1)
    (b : Fin 32) (i : Fin 16) (j : Fin 8192) :
    scored (queries x) (keys x) (ix3 b i j) = ((Peak.peak 8191 j : ℝ) : EReal) := by
  rw [scored_apply, root_64, Ideal.div_coe (by norm_num)]
  unfold dot Peak.peak
  simp only [queries_apply, keys_apply, hx, one_mul]
  by_cases h : j = (8191 : Fin 8192)
  · simp only [if_pos h]
    rw [Finset.sum_const, Finset.card_univ, Fintype.card_fin, nsmul_one]
    show (((64 : ℕ) : EReal)) * _ = _
    rw [← EReal.coe_natCast, ← EReal.coe_mul]
    norm_num
  · simp only [if_neg h]
    rw [Finset.sum_const_zero, zero_mul, EReal.coe_zero]

/-- The largest score of one query. -/
theorem largest_apply (s : FVec Ideal S32x16x8192 .f32) (b : Fin 32) (i : Fin 16) :
    largest s (ix2 b i) = top fun l => s (ix3 b i l) := by
  unfold largest top
  exact Attention.largest_apply reducesTo_S32x16x8192_S32x16_d2 h_S_ s b i

/-- The repeated number is the query's own. -/
theorem spread_apply (r : FVec Ideal S32x16 .f32) (b : Fin 32) (i : Fin 16) (j : Fin 8192) :
    spread r (ix3 b i j) = r (ix2 b i) := by
  pointwise [spread]
  exact max_bits_bot _

/-- The sum over the keys, at every key. -/
theorem totals_apply (e : FVec Ideal S32x16x8192 .f32) (b : Fin 32) (i : Fin 16) (j : Fin 8192) :
    totals e (ix3 b i j) = ∑ l, e (ix3 b i l) := by
  pointwise [totals]

/-- The sum over the queries, at one key. -/
theorem summed_apply (w : FVec Ideal S32x16x8192 .f32) (b : Fin 32) (j : Fin 8192) :
    summed w (ix2 b j) = ∑ i, w (ix3 b i j) := by
  pointwise [summed]

/-- One entry of the exponentials. -/
theorem shifted_apply (s t : FVec Ideal S32x16x8192 .f32) (y : S32x16x8192.Idx) :
    Host.exp (subf s t) y = Ideal.exp (s y - t y) := rfl

/-- One entry of the weights. -/
theorem quotient_apply (e t : FVec Ideal S32x16x8192 .f32) (y : S32x16x8192.Idx) :
    Host.divf e t y = Ideal.div (e y) (t y) := rfl

/-- One entry of the importance. -/
theorem important_apply (s : FVec Ideal S32x16x8192 .f32) (b : Fin 32) (j : Fin 8192) :
    important s (ix2 b j) = importance (fun i l => s (ix3 b i l)) j := by
  unfold important
  rw [summed_apply]
  unfold importance weight
  have e : ∀ i l, Host.exp (subf s (spread (largest s))) (ix3 b i l)
      = Ideal.exp (s (ix3 b i l) - top fun l => s (ix3 b i l)) := fun i l => by
    rw [shifted_apply, spread_apply, largest_apply]
  simp only [quotient_apply, totals_apply, e]

/-- So the first key selected is the last one, -/
theorem selected_one (x : FVec Ideal S1x1x1 .f32) (hx : x (ix3 (0 : Fin 1) (0 : Fin 1) (0 : Fin 1)) = 1) :
    selected (important (scored (queries x) (keys x))) (ix2 (0 : Fin 32) (0 : Fin 384)) = 8191#32 := by
  have h : ∀ j, j ≠ (8191 : Fin 8192) → important (scored (queries x) (keys x)) (ix2 (0 : Fin 32) j)
      < important (scored (queries x) (keys x)) (ix2 (0 : Fin 32) (8191 : Fin 8192)) := fun j hj => by
    simp only [important_apply, scored_one x hx]
    exact Peak.importance_lt 8191 j hj
  generalize important (scored (queries x) (keys x)) = y at h
  exact TopIndex.first_selected sliceFits_S32x8192_S32x384 y 0 0 rfl 8191 h

/-- and the first entry of the result is one. -/
theorem result_one (x : FVec Ideal S1x1x1 .f32) (hx : x (ix3 (0 : Fin 1) (0 : Fin 1) (0 : Fin 1)) = 1) :
    result x (ix3 (0 : Fin 32) (0 : Fin 384) (0 : Fin 64)) = 1 := by
  obtain ⟨b, d, e⟩ := rows_apply (keys x) _ (wrapped_apply _ (selected_one x hx))
  unfold result
  rw [e, keys_apply, if_pos rfl, hx]

end Cert.Proof.ReferenceAtValue

end
-- ==== Proof.Disproof.lean ====
/- The version's program does not compute the reference: on the arrays built from the number one, the reference's result
   begins with one and the version's with zero. -/
module

public import proofs.«01_k».proof.Defs
public import proofs.«01_k».proof.Proof.KernelAtValue
public import proofs.«01_k».proof.Proof.ReferenceAtValue

@[expose] public section

noncomputable section

namespace Cert.Proof.Disproof

open Idealize.ShloMosaic Idealize.ShloMosaic.TcCoe Idealize.ShloMosaic.Pointwise Idealize.SL.Sem

/-- The number the arrays are built from is one. -/
theorem argument_one (i : Shape.Idx ⟨3, ![1, 1, 1]⟩) : Cert.Cx_KernelAtIdeal.arg0 (F := Ideal) i = (1 : EReal) := by
  have e : ∀ a b c : Fin 1, Cert.Cx_KernelAtIdeal.arg0_words a b c = 0x3F800000#32 := by decide
  exact (congrArg (Ideal.ofBits .f32) (e (i 0) (i 1) (i 2))).trans Ideal.ofBits_one_f32

/-- No run of the version's program on those arrays ends with the reference's result. -/
theorem holds : Cert.disproves_algebraic_KernelAtIdeal_ReferenceAtIdeal (hKernelAtIdeal := Cert.KernelAtIdeal.Gen.facts)
    (hReferenceAtIdeal := Cert.ReferenceAtIdeal.Gen.facts) := by
  intro m g m' g' hm same
  refine ⟨trivial, _, ?_, ReferenceAtValue.run m' g'⟩
  refine (θ_run _ _ _).mono (fun r h eq => ?_) (KernelAtValue.run m g)
  have e := congrFun (eq 0) (ix3 (0 : Fin 32) (0 : Fin 384) (0 : Fin 64))
  have hx : m' (((0 : Dev Cert.KernelAtIdeal.nD) : Thread Cert.ReferenceAtIdeal.nD Cert.ReferenceAtIdeal.τ).loc Cert.ReferenceAtIdeal.main_arg0)
      (ix3 (0 : Fin 1) (0 : Fin 1) (0 : Fin 1)) = (1 : EReal) := by
    rw [same 0, hm 0]
    exact argument_one _
  exact zero_ne_one (α := EReal) (((h 0).symm.trans e).trans (ReferenceAtValue.result_one _ hx))

end Cert.Proof.Disproof

end
-- ==== Proof.lean ====
/- The claim, assembled: each program's frame, the idealizations, the value claim of the importance call against the plain
   importance, what the version's program returns, and the input at which that is not the reference's result. -/
module

public import proofs.«01_k».proof.Defs
public import proofs.«01_k».proof.Proof.Gen.ImportanceIdeal.Value
public import proofs.«01_k».proof.Proof.Gen.ImportanceRefIdeal.Run
public import proofs.«01_k».proof.Proof.Gen.FirstRowsIdeal.Run
public import proofs.«01_k».proof.Proof.Gen.ReferenceIdeal.Run
public import proofs.«01_k».proof.Proof.Gen.ReferenceAtIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Importance
public import proofs.«01_k».proof.Proof.Gen.Importance.Skeleton
public import proofs.«01_k».proof.Proof.Gen.Importance.Launch
public import proofs.«01_k».proof.Proof.Gen.Importance.Points
public import proofs.«01_k».proof.Proof.Gen.Importance.Frame
public import proofs.«01_k».proof.Proof.Gen.ImportanceIdeal
public import proofs.«01_k».proof.Proof.Gen.ImportanceIdeal.Skeleton
public import proofs.«01_k».proof.Proof.Gen.ImportanceIdeal.Launch
public import proofs.«01_k».proof.Proof.Gen.ImportanceIdeal.Points
public import proofs.«01_k».proof.Proof.Gen.ImportanceIdeal.Frame
public import proofs.«01_k».proof.Proof.Gen.ImportanceRefIdeal
public import proofs.«01_k».proof.Proof.Gen.ReferenceIdeal
public import proofs.«01_k».proof.Proof.Gen.FirstRowsIdeal
public import proofs.«01_k».proof.Proof.Gen.KernelAt
public import proofs.«01_k».proof.Proof.Gen.KernelAt.Skeleton
public import proofs.«01_k».proof.Proof.Gen.KernelAt.Launch
public import proofs.«01_k».proof.Proof.Gen.KernelAt.Points
public import proofs.«01_k».proof.Proof.Gen.KernelAt.Frame
public import proofs.«01_k».proof.Proof.Gen.KernelAtIdeal
public import proofs.«01_k».proof.Proof.Gen.KernelAtIdeal.Skeleton
public import proofs.«01_k».proof.Proof.Gen.KernelAtIdeal.Launch
public import proofs.«01_k».proof.Proof.Gen.KernelAtIdeal.Points
public import proofs.«01_k».proof.Proof.Gen.KernelAtIdeal.Frame
public import proofs.«01_k».proof.Proof.Gen.ReferenceAtIdeal
public import proofs.«01_k».proof.Proof.ImportanceEquation
public import proofs.«01_k».proof.Proof.FirstRows
public import proofs.«01_k».proof.Proof.HostFrames
public import proofs.«01_k».proof.Proof.Disproof
public import Idealize.ShloMosaic.Adequacy
public import Idealize.ShloMosaic.Init

@[expose] public section

noncomputable section

namespace Cert.Proof

open Idealize.ShloMosaic Idealize.SL.Sem Cert.Kernel

/-- Everything certified. -/
theorem claim : Cert.Claim := ⟨Cert.Kernel.Gen.facts, Cert.KernelIdeal.Gen.facts, Cert.Importance.Gen.facts, Cert.ImportanceIdeal.Gen.facts, Cert.ImportanceRefIdeal.Gen.facts, Cert.ReferenceIdeal.Gen.facts, Cert.FirstRowsIdeal.Gen.facts, Cert.KernelAt.Gen.facts, Cert.KernelAtIdeal.Gen.facts, Cert.ReferenceAtIdeal.Gen.facts,
  fun m ρ _ => Cert.Kernel.Gen.frame m ρ,
  fun m ρ _ => Cert.KernelIdeal.Gen.frame m ρ,
  fun m ρ _ => Cert.Importance.Gen.frame m ρ,
  fun m ρ _ => Cert.ImportanceIdeal.Gen.frame m ρ,
  HostFrames.importance,
  HostFrames.reference,
  HostFrames.firstRows,
  fun m ρ _ => Cert.KernelAt.Gen.frame m ρ,
  fun m ρ _ => Cert.KernelAtIdeal.Gen.frame m ρ,
  HostFrames.referenceAt,
  trivial,
  trivial,
  ImportanceEquation.holds,
  FirstRows.holds,
  trivial,
  Disproof.holds⟩

end Cert.Proof

end
